-- ==== Defs.lean ====
def Pre_Kernel (m : (ℓ : Loc Cert.Kernel.nD Cert.Kernel.τ Cert.Kernel.sig) → Buf (Elt Bits) ℓ) : Prop :=
  True

def Pre_AtScale (m : (ℓ : Loc Cert.AtScale.nD Cert.AtScale.τ Cert.AtScale.sig) → Buf (Elt Bits) ℓ) : Prop :=
  True

def Pre_AtScaleIdeal (m : (ℓ : Loc Cert.AtScaleIdeal.nD Cert.AtScaleIdeal.τ Cert.AtScaleIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Codes (m : (ℓ : Loc Cert.Codes.nD Cert.Codes.τ Cert.Codes.sig) → Buf (Elt Bits) ℓ) : Prop :=
  True

def Pre_CodesReference (m : (ℓ : Loc Cert.CodesReference.nD Cert.CodesReference.τ Cert.CodesReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_AtScale [hAtScale : Cert.AtScale.Facts] : Prop :=
  ∀ (m : (ℓ : Loc Cert.AtScale.nD Cert.AtScale.τ Cert.AtScale.sig) → Buf (Elt Bits) ℓ) (g : Dev Cert.AtScale.nD → PrngReg), Pre_AtScale m →
    θ_run (Cert.AtScale.defs (F := Bits)) (onTc (τ := Cert.AtScale.τ) (Cert.AtScale.main (F := Bits))) ⟨m, fun _ => 0, g⟩ (fun r => (∀ c : Dev Cert.AtScale.nD,
      r.2.mem ((c.tc : Thread Cert.AtScale.nD Cert.AtScale.τ).loc Cert.AtScale.main_arg0) = m ((c.tc : Thread Cert.AtScale.nD Cert.AtScale.τ).loc Cert.AtScale.main_arg0)
      ∧ r.2.mem ((c.tc : Thread Cert.AtScale.nD Cert.AtScale.τ).loc Cert.AtScale.main_arg1) = m ((c.tc : Thread Cert.AtScale.nD Cert.AtScale.τ).loc Cert.AtScale.main_arg1)
      ∧ r.2.mem ((c.tc : Thread Cert.AtScale.nD Cert.AtScale.τ).loc Cert.AtScale.main_arg2) = m ((c.tc : Thread Cert.AtScale.nD Cert.AtScale.τ).loc Cert.AtScale.main_arg2)
      ∧ r.2.mem ((c.tc : Thread Cert.AtScale.nD Cert.AtScale.τ).loc Cert.AtScale.main_arg3) = m ((c.tc : Thread Cert.AtScale.nD Cert.AtScale.τ).loc Cert.AtScale.main_arg3)
      ∧ r.2.mem ((c.tc : Thread Cert.AtScale.nD Cert.AtScale.τ).loc Cert.AtScale.main_arg4) = m ((c.tc : Thread Cert.AtScale.nD Cert.AtScale.τ).loc Cert.AtScale.main_arg4)
      ∧ r.2.mem ((c.tc : Thread Cert.AtScale.nD Cert.AtScale.τ).loc Cert.AtScale.main_arg5) = m ((c.tc : Thread Cert.AtScale.nD Cert.AtScale.τ).loc Cert.AtScale.main_arg5))
      ∧ r.2.sem = fun _ => 0)

def quiescent_AtScaleIdeal [hAtScaleIdeal : Cert.AtScaleIdeal.Facts] : Prop :=
  ∀ (m : (ℓ : Loc Cert.AtScaleIdeal.nD Cert.AtScaleIdeal.τ Cert.AtScaleIdeal.sig) → Buf (Elt Ideal) ℓ) (g : Dev Cert.AtScaleIdeal.nD → PrngReg), Pre_AtScaleIdeal m →
    θ_run (Cert.AtScaleIdeal.defs (F := Ideal)) (onTc (τ := Cert.AtScaleIdeal.τ) (Cert.AtScaleIdeal.main (F := Ideal))) ⟨m, fun _ => 0, g⟩ (fun r => (∀ c : Dev Cert.AtScaleIdeal.nD,
      r.2.mem ((c.tc : Thread Cert.AtScaleIdeal.nD Cert.AtScaleIdeal.τ).loc Cert.AtScaleIdeal.main_arg0) = m ((c.tc : Thread Cert.AtScaleIdeal.nD Cert.AtScaleIdeal.τ).loc Cert.AtScaleIdeal.main_arg0)
      ∧ r.2.mem ((c.tc : Thread Cert.AtScaleIdeal.nD Cert.AtScaleIdeal.τ).loc Cert.AtScaleIdeal.main_arg1) = m ((c.tc : Thread Cert.AtScaleIdeal.nD Cert.AtScaleIdeal.τ).loc Cert.AtScaleIdeal.main_arg1)
      ∧ r.2.mem ((c.tc : Thread Cert.AtScaleIdeal.nD Cert.AtScaleIdeal.τ).loc Cert.AtScaleIdeal.main_arg2) = m ((c.tc : Thread Cert.AtScaleIdeal.nD Cert.AtScaleIdeal.τ).loc Cert.AtScaleIdeal.main_arg2)
      ∧ r.2.mem ((c.tc : Thread Cert.AtScaleIdeal.nD Cert.AtScaleIdeal.τ).loc Cert.AtScaleIdeal.main_arg3) = m ((c.tc : Thread Cert.AtScaleIdeal.nD Cert.AtScaleIdeal.τ).loc Cert.AtScaleIdeal.main_arg3)
      ∧ r.2.mem ((c.tc : Thread Cert.AtScaleIdeal.nD Cert.AtScaleIdeal.τ).loc Cert.AtScaleIdeal.main_arg4) = m ((c.tc : Thread Cert.AtScaleIdeal.nD Cert.AtScaleIdeal.τ).loc Cert.AtScaleIdeal.main_arg4)
      ∧ r.2.mem ((c.tc : Thread Cert.AtScaleIdeal.nD Cert.AtScaleIdeal.τ).loc Cert.AtScaleIdeal.main_arg5) = m ((c.tc : Thread Cert.AtScaleIdeal.nD Cert.AtScaleIdeal.τ).loc Cert.AtScaleIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2)
      ∧ r.2.mem ((c.tc : Thread Cert.Codes.nD Cert.Codes.τ).loc Cert.Codes.main_arg3) = m ((c.tc : Thread Cert.Codes.nD Cert.Codes.τ).loc Cert.Codes.main_arg3)
      ∧ r.2.mem ((c.tc : Thread Cert.Codes.nD Cert.Codes.τ).loc Cert.Codes.main_arg4) = m ((c.tc : Thread Cert.Codes.nD Cert.Codes.τ).loc Cert.Codes.main_arg4))
      ∧ r.2.sem = fun _ => 0)

def quiescent_CodesReference [hCodesReference : Cert.CodesReference.Facts] : Prop :=
  ∀ (m : (ℓ : Loc Cert.CodesReference.nD Cert.CodesReference.τ Cert.CodesReference.sig) → Buf (Elt Bits) ℓ) (g : Dev Cert.CodesReference.nD → PrngReg), Pre_CodesReference m →
    θ_run (Cert.CodesReference.defs (F := Bits)) (onTc (τ := Cert.CodesReference.τ) (Cert.CodesReference.main (F := Bits))) ⟨m, fun _ => 0, g⟩ (fun r => (∀ c : Dev Cert.CodesReference.nD,
      r.2.mem ((c.tc : Thread Cert.CodesReference.nD Cert.CodesReference.τ).loc Cert.CodesReference.main_arg0) = m ((c.tc : Thread Cert.CodesReference.nD Cert.CodesReference.τ).loc Cert.CodesReference.main_arg0)
      ∧ r.2.mem ((c.tc : Thread Cert.CodesReference.nD Cert.CodesReference.τ).loc Cert.CodesReference.main_arg1) = m ((c.tc : Thread Cert.CodesReference.nD Cert.CodesReference.τ).loc Cert.CodesReference.main_arg1)
      ∧ r.2.mem ((c.tc : Thread Cert.CodesReference.nD Cert.CodesReference.τ).loc Cert.CodesReference.main_arg2) = m ((c.tc : Thread Cert.CodesReference.nD Cert.CodesReference.τ).loc Cert.CodesReference.main_arg2)
      ∧ r.2.mem ((c.tc : Thread Cert.CodesReference.nD Cert.CodesReference.τ).loc Cert.CodesReference.main_arg3) = m ((c.tc : Thread Cert.CodesReference.nD Cert.CodesReference.τ).loc Cert.CodesReference.main_arg3)
      ∧ r.2.mem ((c.tc : Thread Cert.CodesReference.nD Cert.CodesReference.τ).loc Cert.CodesReference.main_arg4) = m ((c.tc : Thread Cert.CodesReference.nD Cert.CodesReference.τ).loc Cert.CodesReference.main_arg4))
      ∧ r.2.sem = fun _ => 0)

def preserves_AtScale_AtScaleIdeal : Prop :=
  True

def algebraic_AtScaleIdeal_ReferenceIdeal [hAtScaleIdeal : Cert.AtScaleIdeal.Facts] [hReferenceIdeal : Cert.ReferenceIdeal.Facts] : Prop :=
  ∀ (m : (ℓ : Loc Cert.AtScaleIdeal.nD Cert.AtScaleIdeal.τ Cert.AtScaleIdeal.sig) → Buf (Elt Ideal) ℓ) (g : Dev Cert.AtScaleIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_AtScaleIdeal m →
    (∀ c : Dev Cert.AtScaleIdeal.nD,
      m' ((c.tc : Thread Cert.ReferenceIdeal.nD Cert.ReferenceIdeal.τ).loc Cert.ReferenceIdeal.main_arg0) = m ((c.tc : Thread Cert.AtScaleIdeal.nD Cert.AtScaleIdeal.τ).loc Cert.AtScaleIdeal.main_arg0)
      ∧ m' ((c.tc : Thread Cert.ReferenceIdeal.nD Cert.ReferenceIdeal.τ).loc Cert.ReferenceIdeal.main_arg1) = m ((c.tc : Thread Cert.AtScaleIdeal.nD Cert.AtScaleIdeal.τ).loc Cert.AtScaleIdeal.main_arg1)
      ∧ m' ((c.tc : Thread Cert.ReferenceIdeal.nD Cert.ReferenceIdeal.τ).loc Cert.ReferenceIdeal.main_arg2) = m ((c.tc : Thread Cert.AtScaleIdeal.nD Cert.AtScaleIdeal.τ).loc Cert.AtScaleIdeal.main_arg2)
      ∧ m' ((c.tc : Thread Cert.ReferenceIdeal.nD Cert.ReferenceIdeal.τ).loc Cert.ReferenceIdeal.main_arg3) = m ((c.tc : Thread Cert.AtScaleIdeal.nD Cert.AtScaleIdeal.τ).loc Cert.AtScaleIdeal.main_arg3)
      ∧ m' ((c.tc : Thread Cert.ReferenceIdeal.nD Cert.ReferenceIdeal.τ).loc Cert.ReferenceIdeal.main_arg4) = m ((c.tc : Thread Cert.AtScaleIdeal.nD Cert.AtScaleIdeal.τ).loc Cert.AtScaleIdeal.main_arg4)
      ∧ m' ((c.tc : Thread Cert.ReferenceIdeal.nD Cert.ReferenceIdeal.τ).loc Cert.ReferenceIdeal.main_arg5) = m ((c.tc : Thread Cert.AtScaleIdeal.nD Cert.AtScaleIdeal.τ).loc Cert.AtScaleIdeal.main_arg5)) →
    ∃ (v0 : (c : Dev Cert.AtScaleIdeal.nD) → Buf (Elt Ideal) ((c.tc : Thread Cert.AtScaleIdeal.nD Cert.AtScaleIdeal.τ).loc Cert.AtScaleIdeal.main_v5_0)) (v1 : (c : Dev Cert.AtScaleIdeal.nD) → Buf (Elt Ideal) ((c.tc : Thread Cert.AtScaleIdeal.nD Cert.AtScaleIdeal.τ).loc Cert.AtScaleIdeal.main_v5_1)) (v2 : (c : Dev Cert.AtScaleIdeal.nD) → Buf (Elt Ideal) ((c.tc : Thread Cert.AtScaleIdeal.nD Cert.AtScaleIdeal.τ).loc Cert.AtScaleIdeal.main_arg3)),
      θ_run (Cert.AtScaleIdeal.defs (F := Ideal)) (onTc (τ := Cert.AtScaleIdeal.τ) (Cert.AtScaleIdeal.main (F := Ideal))) ⟨m, fun _ => 0, g⟩ (fun r => ∀ c : Dev Cert.AtScaleIdeal.nD,
          r.2.mem ((c.tc : Thread Cert.AtScaleIdeal.nD Cert.AtScaleIdeal.τ).loc Cert.AtScaleIdeal.main_v5_0) = v0 c
          ∧ r.2.mem ((c.tc : Thread Cert.AtScaleIdeal.nD Cert.AtScaleIdeal.τ).loc Cert.AtScaleIdeal.main_v5_1) = v1 c
          ∧ r.2.mem ((c.tc : Thread Cert.AtScaleIdeal.nD Cert.AtScaleIdeal.τ).loc Cert.AtScaleIdeal.main_arg3) = v2 c
          ∧ r.2.mem ((c.tc : Thread Cert.AtScaleIdeal.nD Cert.AtScaleIdeal.τ).loc Cert.AtScaleIdeal.main_arg0) = m ((c.tc : Thread Cert.AtScaleIdeal.nD Cert.AtScaleIdeal.τ).loc Cert.AtScaleIdeal.main_arg0)
          ∧ r.2.mem ((c.tc : Thread Cert.AtScaleIdeal.nD Cert.AtScaleIdeal.τ).loc Cert.AtScaleIdeal.main_arg1) = m ((c.tc : Thread Cert.AtScaleIdeal.nD Cert.AtScaleIdeal.τ).loc Cert.AtScaleIdeal.main_arg1)
          ∧ r.2.mem ((c.tc : Thread Cert.AtScaleIdeal.nD Cert.AtScaleIdeal.τ).loc Cert.AtScaleIdeal.main_arg2) = m ((c.tc : Thread Cert.AtScaleIdeal.nD Cert.AtScaleIdeal.τ).loc Cert.AtScaleIdeal.main_arg2)
          ∧ r.2.mem ((c.tc : Thread Cert.AtScaleIdeal.nD Cert.AtScaleIdeal.τ).loc Cert.AtScaleIdeal.main_arg3) = m ((c.tc : Thread Cert.AtScaleIdeal.nD Cert.AtScaleIdeal.τ).loc Cert.AtScaleIdeal.main_arg3)
          ∧ r.2.mem ((c.tc : Thread Cert.AtScaleIdeal.nD Cert.AtScaleIdeal.τ).loc Cert.AtScaleIdeal.main_arg4) = m ((c.tc : Thread Cert.AtScaleIdeal.nD Cert.AtScaleIdeal.τ).loc Cert.AtScaleIdeal.main_arg4)
          ∧ r.2.mem ((c.tc : Thread Cert.AtScaleIdeal.nD Cert.AtScaleIdeal.τ).loc Cert.AtScaleIdeal.main_arg5) = m ((c.tc : Thread Cert.AtScaleIdeal.nD Cert.AtScaleIdeal.τ).loc Cert.AtScaleIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def bitexact_Codes_CodesReference [hCodes : Cert.Codes.Facts] [hCodesReference : Cert.CodesReference.Facts] : Prop :=
  ∀ (m : (ℓ : Loc Cert.Codes.nD Cert.Codes.τ Cert.Codes.sig) → Buf (Elt Bits) ℓ) (g : Dev Cert.Codes.nD → PrngReg)
    (m' : (ℓ : Loc Cert.CodesReference.nD Cert.CodesReference.τ Cert.CodesReference.sig) → Buf (Elt Bits) ℓ) (g' : Dev Cert.CodesReference.nD → PrngReg), Pre_Codes m →
    (∀ c : Dev Cert.Codes.nD,
      m' ((c.tc : Thread Cert.CodesReference.nD Cert.CodesReference.τ).loc Cert.CodesReference.main_arg0) = m ((c.tc : Thread Cert.Codes.nD Cert.Codes.τ).loc Cert.Codes.main_arg0)
      ∧ m' ((c.tc : Thread Cert.CodesReference.nD Cert.CodesReference.τ).loc Cert.CodesReference.main_arg1) = m ((c.tc : Thread Cert.Codes.nD Cert.Codes.τ).loc Cert.Codes.main_arg1)
      ∧ m' ((c.tc : Thread Cert.CodesReference.nD Cert.CodesReference.τ).loc Cert.CodesReference.main_arg2) = m ((c.tc : Thread Cert.Codes.nD Cert.Codes.τ).loc Cert.Codes.main_arg2)
      ∧ m' ((c.tc : Thread Cert.CodesReference.nD Cert.CodesReference.τ).loc Cert.CodesReference.main_arg3) = m ((c.tc : Thread Cert.Codes.nD Cert.Codes.τ).loc Cert.Codes.main_arg3)
      ∧ m' ((c.tc : Thread Cert.CodesReference.nD Cert.CodesReference.τ).loc Cert.CodesReference.main_arg4) = m ((c.tc : Thread Cert.Codes.nD Cert.Codes.τ).loc Cert.Codes.main_arg4)) →
    ∃ (v0 : (c : Dev Cert.Codes.nD) → Buf (Elt Bits) ((c.tc : Thread Cert.Codes.nD Cert.Codes.τ).loc Cert.Codes.main_v9_1)) (v1 : (c : Dev Cert.Codes.nD) → Buf (Elt Bits) ((c.tc : Thread Cert.Codes.nD Cert.Codes.τ).loc Cert.Codes.main_arg3)),
      θ_run (Cert.Codes.defs (F := Bits)) (onTc (τ := Cert.Codes.τ) (Cert.Codes.main (F := Bits))) ⟨m, fun _ => 0, g⟩ (fun r => ∀ c : Dev Cert.Codes.nD,
          r.2.mem ((c.tc : Thread Cert.Codes.nD Cert.Codes.τ).loc Cert.Codes.main_v9_1) = v0 c
          ∧ r.2.mem ((c.tc : Thread Cert.Codes.nD Cert.Codes.τ).loc Cert.Codes.main_arg3) = v1 c
          ∧ r.2.mem ((c.tc : Thread Cert.Codes.nD Cert.Codes.τ).loc Cert.Codes.main_arg0) = m ((c.tc : Thread Cert.Codes.nD Cert.Codes.τ).loc Cert.Codes.main_arg0)
          ∧ r.2.mem ((c.tc : Thread Cert.Codes.nD Cert.Codes.τ).loc Cert.Codes.main_arg1) = m ((c.tc : Thread Cert.Codes.nD Cert.Codes.τ).loc Cert.Codes.main_arg1)
          ∧ r.2.mem ((c.tc : Thread Cert.Codes.nD Cert.Codes.τ).loc Cert.Codes.main_arg2) = m ((c.tc : Thread Cert.Codes.nD Cert.Codes.τ).loc Cert.Codes.main_arg2)
          ∧ r.2.mem ((c.tc : Thread Cert.Codes.nD Cert.Codes.τ).loc Cert.Codes.main_arg3) = m ((c.tc : Thread Cert.Codes.nD Cert.Codes.τ).loc Cert.Codes.main_arg3)
          ∧ r.2.mem ((c.tc : Thread Cert.Codes.nD Cert.Codes.τ).loc Cert.Codes.main_arg4) = m ((c.tc : Thread Cert.Codes.nD Cert.Codes.τ).loc Cert.Codes.main_arg4))
      ∧ θ_run (Cert.CodesReference.defs (F := Bits)) (onTc (τ := Cert.CodesReference.τ) (Cert.CodesReference.main (F := Bits))) ⟨m', fun _ => 0, g'⟩ (fun r => ∀ c : Dev Cert.CodesReference.nD,
          r.2.mem ((c.tc : Thread Cert.CodesReference.nD Cert.CodesReference.τ).loc Cert.CodesReference.main_v6) = v0 c
          ∧ r.2.mem ((c.tc : Thread Cert.CodesReference.nD Cert.CodesReference.τ).loc Cert.CodesReference.main_arg3) = v1 c
          ∧ r.2.mem ((c.tc : Thread Cert.CodesReference.nD Cert.CodesReference.τ).loc Cert.CodesReference.main_arg0) = m' ((c.tc : Thread Cert.CodesReference.nD Cert.CodesReference.τ).loc Cert.CodesReference.main_arg0)
          ∧ r.2.mem ((c.tc : Thread Cert.CodesReference.nD Cert.CodesReference.τ).loc Cert.CodesReference.main_arg1) = m' ((c.tc : Thread Cert.CodesReference.nD Cert.CodesReference.τ).loc Cert.CodesReference.main_arg1)
          ∧ r.2.mem ((c.tc : Thread Cert.CodesReference.nD Cert.CodesReference.τ).loc Cert.CodesReference.main_arg2) = m' ((c.tc : Thread Cert.CodesReference.nD Cert.CodesReference.τ).loc Cert.CodesReference.main_arg2)
          ∧ r.2.mem ((c.tc : Thread Cert.CodesReference.nD Cert.CodesReference.τ).loc Cert.CodesReference.main_arg3) = m' ((c.tc : Thread Cert.CodesReference.nD Cert.CodesReference.τ).loc Cert.CodesReference.main_arg3)
          ∧ r.2.mem ((c.tc : Thread Cert.CodesReference.nD Cert.CodesReference.τ).loc Cert.CodesReference.main_arg4) = m' ((c.tc : Thread Cert.CodesReference.nD Cert.CodesReference.τ).loc Cert.CodesReference.main_arg4))

def Claim : Prop :=
  ∃ (hKernel : Cert.Kernel.Facts) (hAtScale : Cert.AtScale.Facts) (hAtScaleIdeal : Cert.AtScaleIdeal.Facts) (hReferenceIdeal : Cert.ReferenceIdeal.Facts) (hCodes : Cert.Codes.Facts) (hCodesReference : Cert.CodesReference.Facts),
    quiescent_Kernel (hKernel := hKernel)
    ∧ quiescent_AtScale (hAtScale := hAtScale)
    ∧ quiescent_AtScaleIdeal (hAtScaleIdeal := hAtScaleIdeal)
    ∧ quiescent_ReferenceIdeal (hReferenceIdeal := hReferenceIdeal)
    ∧ quiescent_Codes (hCodes := hCodes)
    ∧ quiescent_CodesReference (hCodesReference := hCodesReference)
    ∧ preserves_AtScale_AtScaleIdeal
    ∧ algebraic_AtScaleIdeal_ReferenceIdeal (hAtScaleIdeal := hAtScaleIdeal) (hReferenceIdeal := hReferenceIdeal)
    ∧ bitexact_Codes_CodesReference (hCodes := hCodes) (hCodesReference := hCodesReference)
-- ==== Kernel.lean ====
abbrev S8x3072x5120 : Shape := ⟨3, ![8, 3072, 5120]⟩
abbrev S1920x5120 : Shape := ⟨2, ![1920, 5120]⟩
abbrev S1920 : Shape := ⟨1, ![1920]⟩
abbrev S1 : Shape := ⟨1, ![1]⟩
abbrev S8x3072x1920 : Shape := ⟨3, ![8, 3072, 1920]⟩
abbrev S_ : Shape := ⟨0, ![]⟩
abbrev S1x1920 : Shape := ⟨2, ![1, 1920]⟩
abbrev S24576x5120 : Shape := ⟨2, ![24576, 5120]⟩
abbrev S24576x1920 : Shape := ⟨2, ![24576, 1920]⟩
abbrev S512x5120 : Shape := ⟨2, ![512, 5120]⟩
abbrev S512x1920 : Shape := ⟨2, ![512, 1920]⟩

abbrev nBuf : Space → Nat
  | .hbm => 123
  | .vmem => 10
  | .smem => 1
  | _ => 0

abbrev bufTy : (tb : Table) → Fin (tcTables nBuf tb) → BufTy
  | .hbm, ⟨0, _⟩ => ⟨S8x3072x5120, .bf16⟩
  | .hbm, ⟨1, _⟩ => ⟨S1920x5120, .fp8e4m3⟩
  | .hbm, ⟨2, _⟩ => ⟨S1920, .f32⟩
  | .hbm, ⟨3, _⟩ => ⟨S1, .f32⟩
  | .hbm, ⟨4, _⟩ => ⟨S8x3072x1920, .bf16⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i1⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1, .f32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S1, .i1⟩
  | .hbm, ⟨33, _⟩ => ⟨S_, .i32⟩
  | .hbm, ⟨34, _⟩ => ⟨S1, .i32⟩
  | .hbm, ⟨35, _⟩ => ⟨S1, .i1⟩
  | .hbm, ⟨36, _⟩ => ⟨S_, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S1, .i32⟩
  | .hbm, ⟨42, _⟩ => ⟨S1, .i1⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S1, .i32⟩
  | .hbm, ⟨49, _⟩ => ⟨S1, .i32⟩
  | .hbm, ⟨50, _⟩ => ⟨S1, .f32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S_, .f32⟩
  | .hbm, ⟨55, _⟩ => ⟨S1, .f32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S_, .i32⟩
  | .hbm, ⟨64, _⟩ => ⟨S1, .i32⟩
  | .hbm, ⟨65, _⟩ => ⟨S1, .i32⟩
  | .hbm, ⟨66, _⟩ => ⟨S1, .i32⟩
  | .hbm, ⟨67, _⟩ => ⟨S1, .f32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S1, .i32⟩
  | .hbm, ⟨72, _⟩ => ⟨S_, .i32⟩
  | .hbm, ⟨73, _⟩ => ⟨S1, .i32⟩
  | .hbm, ⟨74, _⟩ => ⟨S1, .i32⟩
  | .hbm, ⟨75, _⟩ => ⟨S_, .i32⟩
  | .hbm, ⟨76, _⟩ => ⟨S1, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S1, .i1⟩
  | .hbm, ⟨84, _⟩ => ⟨S_, .i32⟩
  | .hbm, ⟨85, _⟩ => ⟨S1, .i32⟩
  | .hbm, ⟨86, _⟩ => ⟨S1, .i1⟩
  | .hbm, ⟨87, _⟩ => ⟨S_, .i32⟩
  | .hbm, ⟨88, _⟩ => ⟨S_, .i32⟩
  | .hbm, ⟨89, _⟩ => ⟨S1, .i32⟩
  | .hbm, ⟨90, _⟩ => ⟨S1, .i32⟩
  | .hbm, ⟨91, _⟩ => ⟨S1, .i32⟩
  | .hbm, ⟨92, _⟩ => ⟨S1, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S1, .i32⟩
  | .hbm, ⟨97, _⟩ => ⟨S1, .i32⟩
  | .hbm, ⟨98, _⟩ => ⟨S_, .i32⟩
  | .hbm, ⟨99, _⟩ => ⟨S1, .i32⟩
  | .hbm, ⟨100, _⟩ => ⟨S1, .i32⟩
  | .hbm, ⟨101, _⟩ => ⟨S1, .i32⟩
  | .hbm, ⟨102, _⟩ => ⟨S1, .i32⟩
  | .hbm, ⟨103, _⟩ => ⟨S_, .i32⟩
  | .hbm, ⟨104, _⟩ => ⟨S1, .i32⟩
  | .hbm, ⟨105, _⟩ => ⟨S1, .i1⟩
  | .hbm, ⟨106, _⟩ => ⟨S_, .i32⟩
  | .hbm, ⟨107, _⟩ => ⟨S1, .i32⟩
  | .hbm, ⟨108, _⟩ => ⟨S1, .i1⟩
  | .hbm, ⟨109, _⟩ => ⟨S1, .i32⟩
  | .hbm, ⟨110, _⟩ => ⟨S1, .i32⟩
  | .hbm, ⟨111, _⟩ => ⟨S1, .i32⟩
  | .hbm, ⟨112, _⟩ => ⟨S1, .i32⟩
  | .hbm, ⟨113, _⟩ => ⟨S1, .f32⟩
  | .hbm, ⟨114, _⟩ => ⟨S1920, .f32⟩
  | .hbm, ⟨115, _⟩ => ⟨S1920, .f32⟩
  | .hbm, ⟨116, _⟩ => ⟨S1x1920, .f32⟩
  | .hbm, ⟨117, _⟩ => ⟨S24576x5120, .bf16⟩
  | .hbm, ⟨118, _⟩ => ⟨S24576x1920, .bf16⟩
  | .hbm, ⟨119, _⟩ => ⟨S24576x1920, .bf16⟩
  | .hbm, ⟨120, _⟩ => ⟨S24576x5120, .fp8e4m3⟩
  | .hbm, ⟨121, _⟩ => ⟨S8x3072x1920, .bf16⟩
  | .hbm, ⟨122, _⟩ => ⟨S8x3072x5120, .fp8e4m3⟩
  | .local _ .vmem, ⟨0, _⟩ => ⟨S512x5120, .bf16⟩
  | .local _ .vmem, ⟨1, _⟩ => ⟨S512x5120, .bf16⟩
  | .local _ .vmem, ⟨2, _⟩ => ⟨S1920x5120, .fp8e4m3⟩
  | .local _ .vmem, ⟨3, _⟩ => ⟨S1x1920, .f32⟩
  | .local _ .vmem, ⟨4, _⟩ => ⟨S512x1920, .bf16⟩
  | .local _ .vmem, ⟨5, _⟩ => ⟨S512x1920, .bf16⟩
  | .local _ .vmem, ⟨6, _⟩ => ⟨S512x1920, .bf16⟩
  | .local _ .vmem, ⟨7, _⟩ => ⟨S512x1920, .bf16⟩
  | .local _ .vmem, ⟨8, _⟩ => ⟨S512x5120, .fp8e4m3⟩
  | .local _ .vmem, ⟨9, _⟩ => ⟨S512x5120, .fp8e4m3⟩
  | .local _ .smem, ⟨0, _⟩ => ⟨S1, .f32⟩
  | _, _ => ⟨S8x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_c_2 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_c_4 : Ref sig .tc := ⟨.hbm, 24, rfl⟩
abbrev main_call0_v14 : Ref sig .tc := ⟨.hbm, 25, rfl⟩
abbrev main_call0_v15 : Ref sig .tc := ⟨.hbm, 26, rfl⟩
abbrev main_call0_c_5 : Ref sig .tc := ⟨.hbm, 27, rfl⟩
abbrev main_call0_v16 : Ref sig .tc := ⟨.hbm, 28, rfl⟩
abbrev main_call0_v17 : Ref sig .tc := ⟨.hbm, 29, rfl⟩
abbrev main_call0_c_6 : Ref sig .tc := ⟨.hbm, 30, rfl⟩
abbrev main_call0_v18 : Ref sig .tc := ⟨.hbm, 31, rfl⟩
abbrev main_call0_v19 : Ref sig .tc := ⟨.hbm, 32, rfl⟩
abbrev main_call0_c_7 : Ref sig .tc := ⟨.hbm, 33, rfl⟩
abbrev main_call0_v20 : Ref sig .tc := ⟨.hbm, 34, rfl⟩
abbrev main_call0_v21 : Ref sig .tc := ⟨.hbm, 35, rfl⟩
abbrev main_call0_c_8 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_c_9 : Ref sig .tc := ⟨.hbm, 43, rfl⟩
abbrev main_call0_v28 : Ref sig .tc := ⟨.hbm, 44, rfl⟩
abbrev main_call0_v29 : Ref sig .tc := ⟨.hbm, 45, rfl⟩
abbrev main_call0_c_10 : Ref sig .tc := ⟨.hbm, 46, rfl⟩
abbrev main_call0_v30 : Ref sig .tc := ⟨.hbm, 47, rfl⟩
abbrev main_call0_v31 : Ref sig .tc := ⟨.hbm, 48, rfl⟩
abbrev main_v0_1 : Ref sig .tc := ⟨.hbm, 49, rfl⟩
abbrev main_v0_0 : Ref sig .tc := ⟨.hbm, 50, rfl⟩
abbrev main_c : Ref sig .tc := ⟨.hbm, 51, rfl⟩
abbrev main_v1 : Ref sig .tc := ⟨.hbm, 52, rfl⟩
abbrev main_v2 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_c : Ref sig .tc := ⟨.hbm, 57, rfl⟩
abbrev main_call1_v2 : Ref sig .tc := ⟨.hbm, 58, rfl⟩
abbrev main_call1_v3 : Ref sig .tc := ⟨.hbm, 59, rfl⟩
abbrev main_call1_c_0 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_c_2 : Ref sig .tc := ⟨.hbm, 69, rfl⟩
abbrev main_call1_v11 : Ref sig .tc := ⟨.hbm, 70, rfl⟩
abbrev main_call1_v12 : Ref sig .tc := ⟨.hbm, 71, rfl⟩
abbrev main_call1_c_3 : Ref sig .tc := ⟨.hbm, 72, rfl⟩
abbrev main_call1_v13 : Ref sig .tc := ⟨.hbm, 73, rfl⟩
abbrev main_call1_v14 : Ref sig .tc := ⟨.hbm, 74, rfl⟩
abbrev main_call1_c_4 : Ref sig .tc := ⟨.hbm, 75, rfl⟩
abbrev main_call1_v15 : Ref sig .tc := ⟨.hbm, 76, rfl⟩
abbrev main_call1_v16 : Ref sig .tc := ⟨.hbm, 77, rfl⟩
abbrev main_call1_c_5 : Ref sig .tc := ⟨.hbm, 78, rfl⟩
abbrev main_call1_v17 : Ref sig .tc := ⟨.hbm, 79, rfl⟩
abbrev main_call1_v18 : Ref sig .tc := ⟨.hbm, 80, rfl⟩
abbrev main_call1_c_6 : Ref sig .tc := ⟨.hbm, 81, rfl⟩
abbrev main_call1_v19 : Ref sig .tc := ⟨.hbm, 82, rfl⟩
abbrev main_call1_v20 : Ref sig .tc := ⟨.hbm, 83, rfl⟩
abbrev main_call1_c_7 : Ref sig .tc := ⟨.hbm, 84, rfl⟩
abbrev main_call1_v21 : Ref sig .tc := ⟨.hbm, 85, rfl⟩
abbrev main_call1_v22 : Ref sig .tc := ⟨.hbm, 86, rfl⟩
abbrev main_call1_c_8 : Ref sig .tc := ⟨.hbm, 87, rfl⟩
abbrev main_call1_c_9 : Ref sig .tc := ⟨.hbm, 88, rfl⟩
abbrev main_call1_v23 : Ref sig .tc := ⟨.hbm, 89, rfl⟩
abbrev main_call1_v24 : Ref sig .tc := ⟨.hbm, 90, rfl⟩
abbrev main_call1_v25 : Ref sig .tc := ⟨.hbm, 91, rfl⟩
abbrev main_call1_v26 : Ref sig .tc := ⟨.hbm, 92, rfl⟩
abbrev main_call1_v27 : Ref sig .tc := ⟨.hbm, 93, rfl⟩
abbrev main_call1_c_10 : Ref sig .tc := ⟨.hbm, 94, rfl⟩
abbrev main_call1_v28 : Ref sig .tc := ⟨.hbm, 95, rfl⟩
abbrev main_call1_v29 : Ref sig .tc := ⟨.hbm, 96, rfl⟩
abbrev main_call1_v30 : Ref sig .tc := ⟨.hbm, 97, rfl⟩
abbrev main_call1_c_11 : Ref sig .tc := ⟨.hbm, 98, rfl⟩
abbrev main_call1_v31 : Ref sig .tc := ⟨.hbm, 99, rfl⟩
abbrev main_call1_v32 : Ref sig .tc := ⟨.hbm, 100, rfl⟩
abbrev main_call1_v33 : Ref sig .tc := ⟨.hbm, 101, rfl⟩
abbrev main_call1_v34 : Ref sig .tc := ⟨.hbm, 102, rfl⟩
abbrev main_call1_c_12 : Ref sig .tc := ⟨.hbm, 103, rfl⟩
abbrev main_call1_v35 : Ref sig .tc := ⟨.hbm, 104, rfl⟩
abbrev main_call1_v36 : Ref sig .tc := ⟨.hbm, 105, rfl⟩
abbrev main_call1_c_13 : Ref sig .tc := ⟨.hbm, 106, rfl⟩
abbrev main_call1_v37 : Ref sig .tc := ⟨.hbm, 107, rfl⟩
abbrev main_call1_v38 : Ref sig .tc := ⟨.hbm, 108, rfl⟩
abbrev main_call1_v39 : Ref sig .tc := ⟨.hbm, 109, rfl⟩
abbrev main_call1_v40 : Ref sig .tc := ⟨.hbm, 110, rfl⟩
abbrev main_call1_v41 : Ref sig .tc := ⟨.hbm, 111, rfl⟩
abbrev main_call1_v42 : Ref sig .tc := ⟨.hbm, 112, rfl⟩
abbrev main_v3 : Ref sig .tc := ⟨.hbm, 113, rfl⟩
abbrev main_v4 : Ref sig .tc := ⟨.hbm, 114, rfl⟩
abbrev main_v5 : Ref sig .tc := ⟨.hbm, 115, rfl⟩
abbrev main_v6 : Ref sig .tc := ⟨.hbm, 116, rfl⟩
abbrev main_v7 : Ref sig .tc := ⟨.hbm, 117, rfl⟩
abbrev main_v8 : Ref sig .tc := ⟨.hbm, 118, rfl⟩
abbrev main_v9_0 : Ref sig .tc := ⟨.hbm, 119, rfl⟩
abbrev main_v9_1 : Ref sig .tc := ⟨.hbm, 120, rfl⟩
abbrev main_v10 : Ref sig .tc := ⟨.hbm, 121, rfl⟩
abbrev main_v11 : Ref sig .tc := ⟨.hbm, 122, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![48], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1920x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1920 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AtScale.lean ====
abbrev S8x3072x5120 : Shape := ⟨3, ![8, 3072, 5120]⟩
abbrev S1920x5120 : Shape := ⟨2, ![1920, 5120]⟩
abbrev S1920 : Shape := ⟨1, ![1920]⟩
abbrev S1 : Shape := ⟨1, ![1]⟩
abbrev S8x3072x1920 : Shape := ⟨3, ![8, 3072, 1920]⟩
abbrev S1x1920 : Shape := ⟨2, ![1, 1920]⟩
abbrev S24576x5120 : Shape := ⟨2, ![24576, 5120]⟩
abbrev S24576x1920 : Shape := ⟨2, ![24576, 1920]⟩
abbrev S512x5120 : Shape := ⟨2, ![512, 5120]⟩
abbrev S512x1920 : Shape := ⟨2, ![512, 1920]⟩

abbrev nBuf : Space → Nat
  | .hbm => 13
  | .vmem => 10
  | .smem => 1
  | _ => 0

abbrev bufTy : (tb : Table) → Fin (tcTables nBuf tb) → BufTy
  | .hbm, ⟨0, _⟩ => ⟨S8x3072x5120, .bf16⟩
  | .hbm, ⟨1, _⟩ => ⟨S1920x5120, .fp8e4m3⟩
  | .hbm, ⟨2, _⟩ => ⟨S1920, .f32⟩
  | .hbm, ⟨3, _⟩ => ⟨S1, .f32⟩
  | .hbm, ⟨4, _⟩ => ⟨S8x3072x1920, .bf16⟩
  | .hbm, ⟨5, _⟩ => ⟨S1, .f32⟩
  | .hbm, ⟨6, _⟩ => ⟨S1920, .f32⟩
  | .hbm, ⟨7, _⟩ => ⟨S1920, .f32⟩
  | .hbm, ⟨8, _⟩ => ⟨S1x1920, .f32⟩
  | .hbm, ⟨9, _⟩ => ⟨S24576x5120, .bf16⟩
  | .hbm, ⟨10, _⟩ => ⟨S24576x1920, .bf16⟩
  | .hbm, ⟨11, _⟩ => ⟨S24576x1920, .bf16⟩
  | .hbm, ⟨12, _⟩ => ⟨S24576x5120, .fp8e4m3⟩
  | .local _ .vmem, ⟨0, _⟩ => ⟨S512x5120, .bf16⟩
  | .local _ .vmem, ⟨1, _⟩ => ⟨S512x5120, .bf16⟩
  | .local _ .vmem, ⟨2, _⟩ => ⟨S1920x5120, .fp8e4m3⟩
  | .local _ .vmem, ⟨3, _⟩ => ⟨S1x1920, .f32⟩
  | .local _ .vmem, ⟨4, _⟩ => ⟨S512x1920, .bf16⟩
  | .local _ .vmem, ⟨5, _⟩ => ⟨S512x1920, .bf16⟩
  | .local _ .vmem, ⟨6, _⟩ => ⟨S512x1920, .bf16⟩
  | .local _ .vmem, ⟨7, _⟩ => ⟨S512x1920, .bf16⟩
  | .local _ .vmem, ⟨8, _⟩ => ⟨S512x5120, .fp8e4m3⟩
  | .local _ .vmem, ⟨9, _⟩ => ⟨S512x5120, .fp8e4m3⟩
  | .local _ .smem, ⟨0, _⟩ => ⟨S1, .f32⟩
  | _, _ => ⟨S8x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![48], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1920x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1920 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x3072x5120 : Shape := ⟨3, ![8, 3072, 5120]⟩
abbrev S1920x5120 : Shape := ⟨2, ![1920, 5120]⟩
abbrev S1920 : Shape := ⟨1, ![1920]⟩
abbrev S1 : Shape := ⟨1, ![1]⟩
abbrev S8x3072x1920 : Shape := ⟨3, ![8, 3072, 1920]⟩
abbrev S24576x5120 : Shape := ⟨2, ![24576, 5120]⟩
abbrev S1x1920 : Shape := ⟨2, ![1, 1920]⟩
abbrev S1x1 : Shape := ⟨2, ![1, 1]⟩
abbrev S24576x1920 : Shape := ⟨2, ![24576, 1920]⟩

abbrev nBuf : Space → Nat
  | .hbm => 13
  | .vmem => 8
  | .smem => 0
  | _ => 0

abbrev bufTy : (tb : Table) → Fin (tcTables nBuf tb) → BufTy
  | .hbm, ⟨0, _⟩ => ⟨S8x3072x5120, .bf16⟩
  | .hbm, ⟨1, _⟩ => ⟨S1920x5120, .fp8e4m3⟩
  | .hbm, ⟨2, _⟩ => ⟨S1920, .f32⟩
  | .hbm, ⟨3, _⟩ => ⟨S1, .f32⟩
  | .hbm, ⟨4, _⟩ => ⟨S8x3072x1920, .bf16⟩
  | .hbm, ⟨5, _⟩ => ⟨S1, .f32⟩
  | .hbm, ⟨6, _⟩ => ⟨S24576x5120, .bf16⟩
  | .hbm, ⟨7, _⟩ => ⟨S1x1920, .f32⟩
  | .hbm, ⟨8, _⟩ => ⟨S1x1, .f32⟩
  | .hbm, ⟨9, _⟩ => ⟨S24576x1920, .bf16⟩
  | .hbm, ⟨10, _⟩ => ⟨S1x1, .f32⟩
  | .hbm, ⟨11, _⟩ => ⟨S24576x1920, .bf16⟩
  | .hbm, ⟨12, _⟩ => ⟨S24576x5120, .fp8e4m3⟩
  | .local _ .vmem, ⟨0, _⟩ => ⟨S24576x5120, .bf16⟩
  | .local _ .vmem, ⟨1, _⟩ => ⟨S1920x5120, .fp8e4m3⟩
  | .local _ .vmem, ⟨2, _⟩ => ⟨S1x1920, .f32⟩
  | .local _ .vmem, ⟨3, _⟩ => ⟨S1x1, .f32⟩
  | .local _ .vmem, ⟨4, _⟩ => ⟨S24576x1920, .bf16⟩
  | .local _ .vmem, ⟨5, _⟩ => ⟨S1x1, .f32⟩
  | .local _ .vmem, ⟨6, _⟩ => ⟨S24576x1920, .bf16⟩
  | .local _ .vmem, ⟨7, _⟩ => ⟨S24576x5120, .fp8e4m3⟩
  | _, _ => ⟨S8x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24576x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1920 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Codes.lean ====
abbrev S8x3072x5120 : Shape := ⟨3, ![8, 3072, 5120]⟩
abbrev S1920x5120 : Shape := ⟨2, ![1920, 5120]⟩
abbrev S1920 : Shape := ⟨1, ![1920]⟩
abbrev S1 : Shape := ⟨1, ![1]⟩
abbrev S8x3072x1920 : Shape := ⟨3, ![8, 3072, 1920]⟩
abbrev S_ : Shape := ⟨0, ![]⟩
abbrev S1x1920 : Shape := ⟨2, ![1, 1920]⟩
abbrev S24576x5120 : Shape := ⟨2, ![24576, 5120]⟩
abbrev S24576x1920 : Shape := ⟨2, ![24576, 1920]⟩
abbrev S512x5120 : Shape := ⟨2, ![512, 5120]⟩
abbrev S512x1920 : Shape := ⟨2, ![512, 1920]⟩

abbrev nBuf : Space → Nat
  | .hbm => 121
  | .vmem => 10
  | .smem => 1
  | _ => 0

abbrev bufTy : (tb : Table) → Fin (tcTables nBuf tb) → BufTy
  | .hbm, ⟨0, _⟩ => ⟨S8x3072x5120, .bf16⟩
  | .hbm, ⟨1, _⟩ => ⟨S1920x5120, .fp8e4m3⟩
  | .hbm, ⟨2, _⟩ => ⟨S1920, .f32⟩
  | .hbm, ⟨3, _⟩ => ⟨S1, .f32⟩
  | .hbm, ⟨4, _⟩ => ⟨S8x3072x1920, .bf16⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i1⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1, .f32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S1, .i1⟩
  | .hbm, ⟨33, _⟩ => ⟨S_, .i32⟩
  | .hbm, ⟨34, _⟩ => ⟨S1, .i32⟩
  | .hbm, ⟨35, _⟩ => ⟨S1, .i1⟩
  | .hbm, ⟨36, _⟩ => ⟨S_, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S1, .i32⟩
  | .hbm, ⟨42, _⟩ => ⟨S1, .i1⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S1, .i32⟩
  | .hbm, ⟨49, _⟩ => ⟨S1, .i32⟩
  | .hbm, ⟨50, _⟩ => ⟨S1, .f32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S_, .f32⟩
  | .hbm, ⟨55, _⟩ => ⟨S1, .f32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S_, .i32⟩
  | .hbm, ⟨64, _⟩ => ⟨S1, .i32⟩
  | .hbm, ⟨65, _⟩ => ⟨S1, .i32⟩
  | .hbm, ⟨66, _⟩ => ⟨S1, .i32⟩
  | .hbm, ⟨67, _⟩ => ⟨S1, .f32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S1, .i32⟩
  | .hbm, ⟨72, _⟩ => ⟨S_, .i32⟩
  | .hbm, ⟨73, _⟩ => ⟨S1, .i32⟩
  | .hbm, ⟨74, _⟩ => ⟨S1, .i32⟩
  | .hbm, ⟨75, _⟩ => ⟨S_, .i32⟩
  | .hbm, ⟨76, _⟩ => ⟨S1, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S1, .i1⟩
  | .hbm, ⟨84, _⟩ => ⟨S_, .i32⟩
  | .hbm, ⟨85, _⟩ => ⟨S1, .i32⟩
  | .hbm, ⟨86, _⟩ => ⟨S1, .i1⟩
  | .hbm, ⟨87, _⟩ => ⟨S_, .i32⟩
  | .hbm, ⟨88, _⟩ => ⟨S_, .i32⟩
  | .hbm, ⟨89, _⟩ => ⟨S1, .i32⟩
  | .hbm, ⟨90, _⟩ => ⟨S1, .i32⟩
  | .hbm, ⟨91, _⟩ => ⟨S1, .i32⟩
  | .hbm, ⟨92, _⟩ => ⟨S1, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S1, .i32⟩
  | .hbm, ⟨97, _⟩ => ⟨S1, .i32⟩
  | .hbm, ⟨98, _⟩ => ⟨S_, .i32⟩
  | .hbm, ⟨99, _⟩ => ⟨S1, .i32⟩
  | .hbm, ⟨100, _⟩ => ⟨S1, .i32⟩
  | .hbm, ⟨101, _⟩ => ⟨S1, .i32⟩
  | .hbm, ⟨102, _⟩ => ⟨S1, .i32⟩
  | .hbm, ⟨103, _⟩ => ⟨S_, .i32⟩
  | .hbm, ⟨104, _⟩ => ⟨S1, .i32⟩
  | .hbm, ⟨105, _⟩ => ⟨S1, .i1⟩
  | .hbm, ⟨106, _⟩ => ⟨S_, .i32⟩
  | .hbm, ⟨107, _⟩ => ⟨S1, .i32⟩
  | .hbm, ⟨108, _⟩ => ⟨S1, .i1⟩
  | .hbm, ⟨109, _⟩ => ⟨S1, .i32⟩
  | .hbm, ⟨110, _⟩ => ⟨S1, .i32⟩
  | .hbm, ⟨111, _⟩ => ⟨S1, .i32⟩
  | .hbm, ⟨112, _⟩ => ⟨S1, .i32⟩
  | .hbm, ⟨113, _⟩ => ⟨S1, .f32⟩
  | .hbm, ⟨114, _⟩ => ⟨S1920, .f32⟩
  | .hbm, ⟨115, _⟩ => ⟨S1920, .f32⟩
  | .hbm, ⟨116, _⟩ => ⟨S1x1920, .f32⟩
  | .hbm, ⟨117, _⟩ => ⟨S24576x5120, .bf16⟩
  | .hbm, ⟨118, _⟩ => ⟨S24576x1920, .bf16⟩
  | .hbm, ⟨119, _⟩ => ⟨S24576x1920, .bf16⟩
  | .hbm, ⟨120, _⟩ => ⟨S24576x5120, .fp8e4m3⟩
  | .local _ .vmem, ⟨0, _⟩ => ⟨S512x5120, .bf16⟩
  | .local _ .vmem, ⟨1, _⟩ => ⟨S512x5120, .bf16⟩
  | .local _ .vmem, ⟨2, _⟩ => ⟨S1920x5120, .fp8e4m3⟩
  | .local _ .vmem, ⟨3, _⟩ => ⟨S1x1920, .f32⟩
  | .local _ .vmem, ⟨4, _⟩ => ⟨S512x1920, .bf16⟩
  | .local _ .vmem, ⟨5, _⟩ => ⟨S512x1920, .bf16⟩
  | .local _ .vmem, ⟨6, _⟩ => ⟨S512x1920, .bf16⟩
  | .local _ .vmem, ⟨7, _⟩ => ⟨S512x1920, .bf16⟩
  | .local _ .vmem, ⟨8, _⟩ => ⟨S512x5120, .fp8e4m3⟩
  | .local _ .vmem, ⟨9, _⟩ => ⟨S512x5120, .fp8e4m3⟩
  | .local _ .smem, ⟨0, _⟩ => ⟨S1, .f32⟩
  | _, _ => ⟨S8x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_c_2 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_c_4 : Ref sig .tc := ⟨.hbm, 24, rfl⟩
abbrev main_call0_v14 : Ref sig .tc := ⟨.hbm, 25, rfl⟩
abbrev main_call0_v15 : Ref sig .tc := ⟨.hbm, 26, rfl⟩
abbrev main_call0_c_5 : Ref sig .tc := ⟨.hbm, 27, rfl⟩
abbrev main_call0_v16 : Ref sig .tc := ⟨.hbm, 28, rfl⟩
abbrev main_call0_v17 : Ref sig .tc := ⟨.hbm, 29, rfl⟩
abbrev main_call0_c_6 : Ref sig .tc := ⟨.hbm, 30, rfl⟩
abbrev main_call0_v18 : Ref sig .tc := ⟨.hbm, 31, rfl⟩
abbrev main_call0_v19 : Ref sig .tc := ⟨.hbm, 32, rfl⟩
abbrev main_call0_c_7 : Ref sig .tc := ⟨.hbm, 33, rfl⟩
abbrev main_call0_v20 : Ref sig .tc := ⟨.hbm, 34, rfl⟩
abbrev main_call0_v21 : Ref sig .tc := ⟨.hbm, 35, rfl⟩
abbrev main_call0_c_8 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_c_9 : Ref sig .tc := ⟨.hbm, 43, rfl⟩
abbrev main_call0_v28 : Ref sig .tc := ⟨.hbm, 44, rfl⟩
abbrev main_call0_v29 : Ref sig .tc := ⟨.hbm, 45, rfl⟩
abbrev main_call0_c_10 : Ref sig .tc := ⟨.hbm, 46, rfl⟩
abbrev main_call0_v30 : Ref sig .tc := ⟨.hbm, 47, rfl⟩
abbrev main_call0_v31 : Ref sig .tc := ⟨.hbm, 48, rfl⟩
abbrev main_v0_1 : Ref sig .tc := ⟨.hbm, 49, rfl⟩
abbrev main_v0_0 : Ref sig .tc := ⟨.hbm, 50, rfl⟩
abbrev main_c : Ref sig .tc := ⟨.hbm, 51, rfl⟩
abbrev main_v1 : Ref sig .tc := ⟨.hbm, 52, rfl⟩
abbrev main_v2 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_c : Ref sig .tc := ⟨.hbm, 57, rfl⟩
abbrev main_call1_v2 : Ref sig .tc := ⟨.hbm, 58, rfl⟩
abbrev main_call1_v3 : Ref sig .tc := ⟨.hbm, 59, rfl⟩
abbrev main_call1_c_0 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_c_2 : Ref sig .tc := ⟨.hbm, 69, rfl⟩
abbrev main_call1_v11 : Ref sig .tc := ⟨.hbm, 70, rfl⟩
abbrev main_call1_v12 : Ref sig .tc := ⟨.hbm, 71, rfl⟩
abbrev main_call1_c_3 : Ref sig .tc := ⟨.hbm, 72, rfl⟩
abbrev main_call1_v13 : Ref sig .tc := ⟨.hbm, 73, rfl⟩
abbrev main_call1_v14 : Ref sig .tc := ⟨.hbm, 74, rfl⟩
abbrev main_call1_c_4 : Ref sig .tc := ⟨.hbm, 75, rfl⟩
abbrev main_call1_v15 : Ref sig .tc := ⟨.hbm, 76, rfl⟩
abbrev main_call1_v16 : Ref sig .tc := ⟨.hbm, 77, rfl⟩
abbrev main_call1_c_5 : Ref sig .tc := ⟨.hbm, 78, rfl⟩
abbrev main_call1_v17 : Ref sig .tc := ⟨.hbm, 79, rfl⟩
abbrev main_call1_v18 : Ref sig .tc := ⟨.hbm, 80, rfl⟩
abbrev main_call1_c_6 : Ref sig .tc := ⟨.hbm, 81, rfl⟩
abbrev main_call1_v19 : Ref sig .tc := ⟨.hbm, 82, rfl⟩
abbrev main_call1_v20 : Ref sig .tc := ⟨.hbm, 83, rfl⟩
abbrev main_call1_c_7 : Ref sig .tc := ⟨.hbm, 84, rfl⟩
abbrev main_call1_v21 : Ref sig .tc := ⟨.hbm, 85, rfl⟩
abbrev main_call1_v22 : Ref sig .tc := ⟨.hbm, 86, rfl⟩
abbrev main_call1_c_8 : Ref sig .tc := ⟨.hbm, 87, rfl⟩
abbrev main_call1_c_9 : Ref sig .tc := ⟨.hbm, 88, rfl⟩
abbrev main_call1_v23 : Ref sig .tc := ⟨.hbm, 89, rfl⟩
abbrev main_call1_v24 : Ref sig .tc := ⟨.hbm, 90, rfl⟩
abbrev main_call1_v25 : Ref sig .tc := ⟨.hbm, 91, rfl⟩
abbrev main_call1_v26 : Ref sig .tc := ⟨.hbm, 92, rfl⟩
abbrev main_call1_v27 : Ref sig .tc := ⟨.hbm, 93, rfl⟩
abbrev main_call1_c_10 : Ref sig .tc := ⟨.hbm, 94, rfl⟩
abbrev main_call1_v28 : Ref sig .tc := ⟨.hbm, 95, rfl⟩
abbrev main_call1_v29 : Ref sig .tc := ⟨.hbm, 96, rfl⟩
abbrev main_call1_v30 : Ref sig .tc := ⟨.hbm, 97, rfl⟩
abbrev main_call1_c_11 : Ref sig .tc := ⟨.hbm, 98, rfl⟩
abbrev main_call1_v31 : Ref sig .tc := ⟨.hbm, 99, rfl⟩
abbrev main_call1_v32 : Ref sig .tc := ⟨.hbm, 100, rfl⟩
abbrev main_call1_v33 : Ref sig .tc := ⟨.hbm, 101, rfl⟩
abbrev main_call1_v34 : Ref sig .tc := ⟨.hbm, 102, rfl⟩
abbrev main_call1_c_12 : Ref sig .tc := ⟨.hbm, 103, rfl⟩
abbrev main_call1_v35 : Ref sig .tc := ⟨.hbm, 104, rfl⟩
abbrev main_call1_v36 : Ref sig .tc := ⟨.hbm, 105, rfl⟩
abbrev main_call1_c_13 : Ref sig .tc := ⟨.hbm, 106, rfl⟩
abbrev main_call1_v37 : Ref sig .tc := ⟨.hbm, 107, rfl⟩
abbrev main_call1_v38 : Ref sig .tc := ⟨.hbm, 108, rfl⟩
abbrev main_call1_v39 : Ref sig .tc := ⟨.hbm, 109, rfl⟩
abbrev main_call1_v40 : Ref sig .tc := ⟨.hbm, 110, rfl⟩
abbrev main_call1_v41 : Ref sig .tc := ⟨.hbm, 111, rfl⟩
abbrev main_call1_v42 : Ref sig .tc := ⟨.hbm, 112, rfl⟩
abbrev main_v3 : Ref sig .tc := ⟨.hbm, 113, rfl⟩
abbrev main_v4 : Ref sig .tc := ⟨.hbm, 114, rfl⟩
abbrev main_v5 : Ref sig .tc := ⟨.hbm, 115, rfl⟩
abbrev main_v6 : Ref sig .tc := ⟨.hbm, 116, rfl⟩
abbrev main_v7 : Ref sig .tc := ⟨.hbm, 117, rfl⟩
abbrev main_v8 : Ref sig .tc := ⟨.hbm, 118, rfl⟩
abbrev main_v9_0 : Ref sig .tc := ⟨.hbm, 119, rfl⟩
abbrev main_v9_1 : Ref sig .tc := ⟨.hbm, 120, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![48], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1920x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1920 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CodesReference.lean ====
abbrev S8x3072x5120 : Shape := ⟨3, ![8, 3072, 5120]⟩
abbrev S1920x5120 : Shape := ⟨2, ![1920, 5120]⟩
abbrev S1920 : Shape := ⟨1, ![1920]⟩
abbrev S1 : Shape := ⟨1, ![1]⟩
abbrev S8x3072x1920 : Shape := ⟨3, ![8, 3072, 1920]⟩
abbrev S_ : Shape := ⟨0, ![]⟩
abbrev S24576x5120 : Shape := ⟨2, ![24576, 5120]⟩
abbrev S1x1 : Shape := ⟨2, ![1, 1]⟩

abbrev nBuf : Space → Nat
  | .hbm => 117
  | .vmem => 3
  | .smem => 0
  | _ => 0

abbrev bufTy : (tb : Table) → Fin (tcTables nBuf tb) → BufTy
  | .hbm, ⟨0, _⟩ => ⟨S8x3072x5120, .bf16⟩
  | .hbm, ⟨1, _⟩ => ⟨S1920x5120, .fp8e4m3⟩
  | .hbm, ⟨2, _⟩ => ⟨S1920, .f32⟩
  | .hbm, ⟨3, _⟩ => ⟨S1, .f32⟩
  | .hbm, ⟨4, _⟩ => ⟨S8x3072x1920, .bf16⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i1⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1, .f32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S1, .i1⟩
  | .hbm, ⟨33, _⟩ => ⟨S_, .i32⟩
  | .hbm, ⟨34, _⟩ => ⟨S1, .i32⟩
  | .hbm, ⟨35, _⟩ => ⟨S1, .i1⟩
  | .hbm, ⟨36, _⟩ => ⟨S_, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S1, .i32⟩
  | .hbm, ⟨42, _⟩ => ⟨S1, .i1⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S1, .i32⟩
  | .hbm, ⟨49, _⟩ => ⟨S1, .i32⟩
  | .hbm, ⟨50, _⟩ => ⟨S1, .f32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S_, .f32⟩
  | .hbm, ⟨55, _⟩ => ⟨S1, .f32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S_, .i32⟩
  | .hbm, ⟨64, _⟩ => ⟨S1, .i32⟩
  | .hbm, ⟨65, _⟩ => ⟨S1, .i32⟩
  | .hbm, ⟨66, _⟩ => ⟨S1, .i32⟩
  | .hbm, ⟨67, _⟩ => ⟨S1, .f32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S1, .i32⟩
  | .hbm, ⟨72, _⟩ => ⟨S_, .i32⟩
  | .hbm, ⟨73, _⟩ => ⟨S1, .i32⟩
  | .hbm, ⟨74, _⟩ => ⟨S1, .i32⟩
  | .hbm, ⟨75, _⟩ => ⟨S_, .i32⟩
  | .hbm, ⟨76, _⟩ => ⟨S1, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S1, .i1⟩
  | .hbm, ⟨84, _⟩ => ⟨S_, .i32⟩
  | .hbm, ⟨85, _⟩ => ⟨S1, .i32⟩
  | .hbm, ⟨86, _⟩ => ⟨S1, .i1⟩
  | .hbm, ⟨87, _⟩ => ⟨S_, .i32⟩
  | .hbm, ⟨88, _⟩ => ⟨S_, .i32⟩
  | .hbm, ⟨89, _⟩ => ⟨S1, .i32⟩
  | .hbm, ⟨90, _⟩ => ⟨S1, .i32⟩
  | .hbm, ⟨91, _⟩ => ⟨S1, .i32⟩
  | .hbm, ⟨92, _⟩ => ⟨S1, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S1, .i32⟩
  | .hbm, ⟨97, _⟩ => ⟨S1, .i32⟩
  | .hbm, ⟨98, _⟩ => ⟨S_, .i32⟩
  | .hbm, ⟨99, _⟩ => ⟨S1, .i32⟩
  | .hbm, ⟨100, _⟩ => ⟨S1, .i32⟩
  | .hbm, ⟨101, _⟩ => ⟨S1, .i32⟩
  | .hbm, ⟨102, _⟩ => ⟨S1, .i32⟩
  | .hbm, ⟨103, _⟩ => ⟨S_, .i32⟩
  | .hbm, ⟨104, _⟩ => ⟨S1, .i32⟩
  | .hbm, ⟨105, _⟩ => ⟨S1, .i1⟩
  | .hbm, ⟨106, _⟩ => ⟨S_, .i32⟩
  | .hbm, ⟨107, _⟩ => ⟨S1, .i32⟩
  | .hbm, ⟨108, _⟩ => ⟨S1, .i1⟩
  | .hbm, ⟨109, _⟩ => ⟨S1, .i32⟩
  | .hbm, ⟨110, _⟩ => ⟨S1, .i32⟩
  | .hbm, ⟨111, _⟩ => ⟨S1, .i32⟩
  | .hbm, ⟨112, _⟩ => ⟨S1, .i32⟩
  | .hbm, ⟨113, _⟩ => ⟨S1, .f32⟩
  | .hbm, ⟨114, _⟩ => ⟨S24576x5120, .bf16⟩
  | .hbm, ⟨115, _⟩ => ⟨S1x1, .f32⟩
  | .hbm, ⟨116, _⟩ => ⟨S24576x5120, .fp8e4m3⟩
  | .local _ .vmem, ⟨0, _⟩ => ⟨S24576x5120, .bf16⟩
  | .local _ .vmem, ⟨1, _⟩ => ⟨S1x1, .f32⟩
  | .local _ .vmem, ⟨2, _⟩ => ⟨S24576x5120, .fp8e4m3⟩
  | _, _ => ⟨S8x3072x5120, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_c_2 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_c_4 : Ref sig .tc := ⟨.hbm, 24, rfl⟩
abbrev main_call0_v14 : Ref sig .tc := ⟨.hbm, 25, rfl⟩
abbrev main_call0_v15 : Ref sig .tc := ⟨.hbm, 26, rfl⟩
abbrev main_call0_c_5 : Ref sig .tc := ⟨.hbm, 27, rfl⟩
abbrev main_call0_v16 : Ref sig .tc := ⟨.hbm, 28, rfl⟩
abbrev main_call0_v17 : Ref sig .tc := ⟨.hbm, 29, rfl⟩
abbrev main_call0_c_6 : Ref sig .tc := ⟨.hbm, 30, rfl⟩
abbrev main_call0_v18 : Ref sig .tc := ⟨.hbm, 31, rfl⟩
abbrev main_call0_v19 : Ref sig .tc := ⟨.hbm, 32, rfl⟩
abbrev main_call0_c_7 : Ref sig .tc := ⟨.hbm, 33, rfl⟩
abbrev main_call0_v20 : Ref sig .tc := ⟨.hbm, 34, rfl⟩
abbrev main_call0_v21 : Ref sig .tc := ⟨.hbm, 35, rfl⟩
abbrev main_call0_c_8 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_c_9 : Ref sig .tc := ⟨.hbm, 43, rfl⟩
abbrev main_call0_v28 : Ref sig .tc := ⟨.hbm, 44, rfl⟩
abbrev main_call0_v29 : Ref sig .tc := ⟨.hbm, 45, rfl⟩
abbrev main_call0_c_10 : Ref sig .tc := ⟨.hbm, 46, rfl⟩
abbrev main_call0_v30 : Ref sig .tc := ⟨.hbm, 47, rfl⟩
abbrev main_call0_v31 : Ref sig .tc := ⟨.hbm, 48, rfl⟩
abbrev main_v0_1 : Ref sig .tc := ⟨.hbm, 49, rfl⟩
abbrev main_v0_0 : Ref sig .tc := ⟨.hbm, 50, rfl⟩
abbrev main_c : Ref sig .tc := ⟨.hbm, 51, rfl⟩
abbrev main_v1 : Ref sig .tc := ⟨.hbm, 52, rfl⟩
abbrev main_v2 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_c : Ref sig .tc := ⟨.hbm, 57, rfl⟩
abbrev main_call1_v2 : Ref sig .tc := ⟨.hbm, 58, rfl⟩
abbrev main_call1_v3 : Ref sig .tc := ⟨.hbm, 59, rfl⟩
abbrev main_call1_c_0 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_c_2 : Ref sig .tc := ⟨.hbm, 69, rfl⟩
abbrev main_call1_v11 : Ref sig .tc := ⟨.hbm, 70, rfl⟩
abbrev main_call1_v12 : Ref sig .tc := ⟨.hbm, 71, rfl⟩
abbrev main_call1_c_3 : Ref sig .tc := ⟨.hbm, 72, rfl⟩
abbrev main_call1_v13 : Ref sig .tc := ⟨.hbm, 73, rfl⟩
abbrev main_call1_v14 : Ref sig .tc := ⟨.hbm, 74, rfl⟩
abbrev main_call1_c_4 : Ref sig .tc := ⟨.hbm, 75, rfl⟩
abbrev main_call1_v15 : Ref sig .tc := ⟨.hbm, 76, rfl⟩
abbrev main_call1_v16 : Ref sig .tc := ⟨.hbm, 77, rfl⟩
abbrev main_call1_c_5 : Ref sig .tc := ⟨.hbm, 78, rfl⟩
abbrev main_call1_v17 : Ref sig .tc := ⟨.hbm, 79, rfl⟩
abbrev main_call1_v18 : Ref sig .tc := ⟨.hbm, 80, rfl⟩
abbrev main_call1_c_6 : Ref sig .tc := ⟨.hbm, 81, rfl⟩
abbrev main_call1_v19 : Ref sig .tc := ⟨.hbm, 82, rfl⟩
abbrev main_call1_v20 : Ref sig .tc := ⟨.hbm, 83, rfl⟩
abbrev main_call1_c_7 : Ref sig .tc := ⟨.hbm, 84, rfl⟩
abbrev main_call1_v21 : Ref sig .tc := ⟨.hbm, 85, rfl⟩
abbrev main_call1_v22 : Ref sig .tc := ⟨.hbm, 86, rfl⟩
abbrev main_call1_c_8 : Ref sig .tc := ⟨.hbm, 87, rfl⟩
abbrev main_call1_c_9 : Ref sig .tc := ⟨.hbm, 88, rfl⟩
abbrev main_call1_v23 : Ref sig .tc := ⟨.hbm, 89, rfl⟩
abbrev main_call1_v24 : Ref sig .tc := ⟨.hbm, 90, rfl⟩
abbrev main_call1_v25 : Ref sig .tc := ⟨.hbm, 91, rfl⟩
abbrev main_call1_v26 : Ref sig .tc := ⟨.hbm, 92, rfl⟩
abbrev main_call1_v27 : Ref sig .tc := ⟨.hbm, 93, rfl⟩
abbrev main_call1_c_10 : Ref sig .tc := ⟨.hbm, 94, rfl⟩
abbrev main_call1_v28 : Ref sig .tc := ⟨.hbm, 95, rfl⟩
abbrev main_call1_v29 : Ref sig .tc := ⟨.hbm, 96, rfl⟩
abbrev main_call1_v30 : Ref sig .tc := ⟨.hbm, 97, rfl⟩
abbrev main_call1_c_11 : Ref sig .tc := ⟨.hbm, 98, rfl⟩
abbrev main_call1_v31 : Ref sig .tc := ⟨.hbm, 99, rfl⟩
abbrev main_call1_v32 : Ref sig .tc := ⟨.hbm, 100, rfl⟩
abbrev main_call1_v33 : Ref sig .tc := ⟨.hbm, 101, rfl⟩
abbrev main_call1_v34 : Ref sig .tc := ⟨.hbm, 102, rfl⟩
abbrev main_call1_c_12 : Ref sig .tc := ⟨.hbm, 103, rfl⟩
abbrev main_call1_v35 : Ref sig .tc := ⟨.hbm, 104, rfl⟩
abbrev main_call1_v36 : Ref sig .tc := ⟨.hbm, 105, rfl⟩
abbrev main_call1_c_13 : Ref sig .tc := ⟨.hbm, 106, rfl⟩
abbrev main_call1_v37 : Ref sig .tc := ⟨.hbm, 107, rfl⟩
abbrev main_call1_v38 : Ref sig .tc := ⟨.hbm, 108, rfl⟩
abbrev main_call1_v39 : Ref sig .tc := ⟨.hbm, 109, rfl⟩
abbrev main_call1_v40 : Ref sig .tc := ⟨.hbm, 110, rfl⟩
abbrev main_call1_v41 : Ref sig .tc := ⟨.hbm, 111, rfl⟩
abbrev main_call1_v42 : Ref sig .tc := ⟨.hbm, 112, rfl⟩
abbrev main_v3 : Ref sig .tc := ⟨.hbm, 113, rfl⟩
abbrev main_v4 : Ref sig .tc := ⟨.hbm, 114, rfl⟩
abbrev main_v5 : Ref sig .tc := ⟨.hbm, 115, rfl⟩
abbrev main_v6 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S24576x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Spec.lean ====
/- The mathematics of the linear layer, stated on whole arrays: the fp8 code of an activation, the quantised array, and
   the scaled product plus residual over the extended reals. -/
module

public import Idealize.ShloMosaic.Lib.MatmulPlain
public import Idealize.ShloMosaic.Lib.ValueIdx

@[expose] public section

noncomputable section

namespace Cert.Spec

open Idealize.ShloMosaic Idealize.ShloMosaic.ValueIdx

/-- The fp8 code of one activation: times the reciprocal scale, clipped to ±448, rounded. -/
def code {F : FTy → Type} [FloatOps F] (x : F .bf16) (inv : F .f32) : F .fp8e4m3 :=
  FloatOps.truncf .fp8e4m3 (by decide) (FloatOps.minimumf (Scalar.ofBits .f32 0x43E00000#32)
    (FloatOps.maximumf (Scalar.ofBits .f32 0xC3E00000#32) (FloatOps.mulf (FloatOps.extf .f32 (by decide) x) inv)))

/-- The quantised array. -/
def codes {F : FTy → Type} [FloatOps F] {S : Shape} (x : FVec F S .bf16) (inv : F .f32) : FVec F S .fp8e4m3 :=
  fun i => code (x i) inv

/-- Entry `(i, j)` of the layer: the product of row `i` of the codes and row `j` of the weights, times the scale of
    channel `j`, plus the residual. -/
def linear {M N K : ℕ} (q : FVec Ideal ⟨2, ![M, K]⟩ .fp8e4m3) (w : FVec Ideal ⟨2, ![N, K]⟩ .fp8e4m3)
    (s : Fin N → Ideal .f32) (r : FVec Ideal ⟨2, ![M, N]⟩ .bf16) : FVec Ideal ⟨2, ![M, N]⟩ .bf16 :=
  fun i => ((0 + ∑ k : Fin K, q (ix2 (i 0) k) * w (ix2 (i 1) k) : EReal) * s (i 1) + r i : EReal)

end Cert.Spec

end
-- ==== Proof.Kern.lean ====
/- The kernel at the ideal reading: what its two result arrays hold after the run. -/
module

public import proofs.«01_k».proof.Proof.Spec
public import proofs.«01_k».proof.Proof.Gen.AtScaleIdeal.Value
public import Idealize.ShloMosaic.Lib.Pipeline.Value

@[expose] public section

noncomputable section

namespace Cert.AtScaleIdeal.Value

open Cert.AtScaleIdeal Cert.AtScaleIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

section AnyF
variable {F : FTy → Type} [FloatOps F]
variable (m : (ℓ : Loc nD τ sig) → Buf (Elt F) ℓ)

/-- The scale's word, loaded from its block of one element. -/
theorem word_ld (x0 : Vec F S1 .f32) (h : 0 < (⟨1, ![1]⟩ : Shape).numel) :
    View.ld x0 (Rect.unit (s := S1) ![0] ![1] inb_S1_S1_0) (Shape.Idx.first h) = x0 (ix1 0) :=
  congrArg x0 (funext fun a => match a with | ⟨0, _⟩ => Subsingleton.elim (α := Fin 1) _ _)

/-- The block of codes a point leaves is its block of activations, quantised. -/
theorem out_6 (c : Dev nD) (i : grid0.Coords) (arg1 : Memref sig .tc .smem S1 .f32) (harg1 : arg1.IsWhole) (arg2 : Memref sig .tc .vmem S512x5120 .bf16) (harg2 : arg2.IsWhole) (arg3 : Memref sig .tc .vmem S1920x5120 .fp8e4m3) (harg3 : arg3.IsWhole) (arg4 : Memref sig .tc .vmem S1x1920 .f32) (harg4 : arg4.IsWhole) (arg5 : Memref sig .tc .vmem S512x1920 .bf16) (harg5 : arg5.IsWhole) (arg6 : Memref sig .tc .vmem S512x1920 .bf16) (harg6 : arg6.IsWhole) (arg7 : Memref sig .tc .vmem S512x5120 .fp8e4m3) (harg7 : arg7.IsWhole)
    (x0 : Vec F S1 .f32) (x1 : Vec F S512x5120 .bf16) (x2 : Vec F S1920x5120 .fp8e4m3) (x3 : Vec F S1x1920 .f32) (x4 : Vec F S512x1920 .bf16) :
    out0_A_6 c i arg1 harg1 arg2 harg2 arg3 harg3 arg4 harg4 arg5 harg5 arg6 harg6 arg7 harg7 x0 x1 x2 x3 x4
      = Spec.codes x1 (x0 (ix1 0)) := by
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  unfold k0_pay1
  simp only [View.readAt_eq_ld, harg2.read_unread, harg1.read_unread, View.ld_unit_zero (S := S512x5120) hz, shapeCast_self]
  rw [word_ld]
  rfl

end AnyF

/-- The layer's block, from the payload the body stores. -/
theorem pay2_eq (q : Vec Ideal S512x5120 .fp8e4m3) (w : Vec Ideal S1920x5120 .fp8e4m3) (s : Vec Ideal S1x1920 .f32)
    (r : Vec Ideal S512x1920 .bf16) : k0_pay2 q w s r = Spec.linear q w (fun n => s (ix2 0 n)) r := by
  unfold k0_pay2
  simp only [shapeCast_self]
  funext i
  obtain ⟨a, b, rfl⟩ : ∃ (a : Fin 512) (b : Fin 1920), i = ix2 a b := ⟨i 0, i 1, eq_ix2 i⟩
  rw [truncf_apply, addf_apply, mulf_apply, extf_apply]
  have hm := Ideal.matmul_transposedRhs_apply (M := 512) (K := 5120) (N := 1920) (φ₁ := .fp8e4m3) (φ₂ := .fp8e4m3) none q w (constant S512x1920 .f32 0x00000000#32) a b
  rw [constant_apply, Ideal.ofBits_zero_f32] at hm
  have hb : (broadcastTo S512x1920 s broadcasts_S1x1920_S512x1920 : Vec Ideal S512x1920 .f32) (ix2 a b) = s (ix2 0 b) :=
    broadcastTo_apply _ _ _ _ fun d => match d with | ⟨0, _⟩ => rfl | ⟨1, _⟩ => rfl
  rw [hb]
  exact congrArg (fun z : EReal => z * s (ix2 0 b) + r (ix2 a b)) hm

/-- The block of results a point leaves. -/
theorem out_5 (c : Dev nD) (i : grid0.Coords) (arg1 : Memref sig .tc .smem S1 .f32) (harg1 : arg1.IsWhole) (arg2 : Memref sig .tc .vmem S512x5120 .bf16) (harg2 : arg2.IsWhole) (arg3 : Memref sig .tc .vmem S1920x5120 .fp8e4m3) (harg3 : arg3.IsWhole) (arg4 : Memref sig .tc .vmem S1x1920 .f32) (harg4 : arg4.IsWhole) (arg5 : Memref sig .tc .vmem S512x1920 .bf16) (harg5 : arg5.IsWhole) (arg6 : Memref sig .tc .vmem S512x1920 .bf16) (harg6 : arg6.IsWhole) (arg7 : Memref sig .tc .vmem S512x5120 .fp8e4m3) (harg7 : arg7.IsWhole)
    (x0 : Vec Ideal S1 .f32) (x1 : Vec Ideal S512x5120 .bf16) (x2 : Vec Ideal S1920x5120 .fp8e4m3) (x3 : Vec Ideal S1x1920 .f32) (x4 : Vec Ideal S512x1920 .bf16) :
    out0_A_5 c i arg1 harg1 arg2 harg2 arg3 harg3 arg4 harg4 arg5 harg5 arg6 harg6 arg7 harg7 x0 x1 x2 x3 x4
      = Spec.linear (Spec.codes x1 (x0 (ix1 0))) x2 (fun n => x3 (ix2 0 n)) x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S512x5120) hz, View.ld_unit_zero (S := S1920x5120) hz, View.ld_unit_zero (S := S1x1920) hz, View.ld_unit_zero (S := S512x1920) hz, shapeCast_self]
  rw [View.readCov_unit_zero (S := S512x5120) _ hz, pay2_eq]
  unfold k0_pay1
  simp only [shapeCast_self]
  rw [word_ld]
  rfl

/-! ## The arrays -/

section Arrays

/-- The block indices: windows 1, 4, 5, 6 move with the point; windows 0, 2, 3 stay. -/
theorem idx_t : ∀ t : Fin cfg0.N, (win0_1.index t 0 = t.val ∧ win0_1.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_2.index t 0 = 0 ∧ win0_2.index t 1 = 0) ∧ (win0_3.index t 0 = 0 ∧ win0_3.index t 1 = 0) ∧ win0_0.index t 0 = 0 :=
  (by decide +kernel : ∀ t : Fin grid0.N, (win0_1.index t 0 = t.val ∧ win0_1.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_2.index t 0 = 0 ∧ win0_2.index t 1 = 0) ∧ (win0_3.index t 0 = 0 ∧ win0_3.index t 1 = 0) ∧ win0_0.index t 0 = 0)

variable {F : FTy → Type} [FloatOps F]
variable (m : (ℓ : Loc nD τ sig) → Buf (Elt F) ℓ)

/-- Row `r` of block `t`, of the whole array. -/
abbrev row (t : Fin cfg0.N) (r : Fin 512) : Fin 24576 := ⟨t.val * 512 + r.val, by have := t.isLt; have hN : cfg0.N = 48 := N_0; omega⟩

/-- The scale's block is the scale. -/
theorem iblk0 (c : Dev nD) (t : Fin cfg0.N) : (iblk m c 0 t : Vec F S1 .f32) (ix1 0) = V m c main_arg5 (ix1 0) := by
  unfold iblk
  rw [View.read_apply]
  exact congrArg (V m c main_arg5) (funext fun a => match a with | ⟨0, _⟩ => Subsingleton.elim (α := Fin 1) _ _)

theorem iblk1 (c : Dev nD) (t : Fin cfg0.N) (r : Fin 512) (k : Fin 5120) :
    (iblk m c 1 t : Vec F S512x5120 .bf16) (ix2 r k) = V m c main_v3 (ix2 (row t r) k) := by
  unfold iblk
  rw [View.read_apply]
  refine congrArg (V m c main_v3) (funext fun a => Fin.ext ?_)
  match a with
  | ⟨0, _⟩ => show win0_1.index t 0 * 512 + 1 * r.val = t.val * 512 + r.val; rw [(idx_t t).1.1]; omega
  | ⟨1, _⟩ => show win0_1.index t 1 * 5120 + 1 * k.val = k.val; rw [(idx_t t).1.2]; omega

theorem iblk2 (c : Dev nD) (t : Fin cfg0.N) (n : Fin 1920) (k : Fin 5120) :
    (iblk m c 2 t : Vec F S1920x5120 .fp8e4m3) (ix2 n k) = V m c main_arg1 (ix2 n k) := by
  unfold iblk
  rw [View.read_apply]
  refine congrArg (V m c main_arg1) (funext fun a => Fin.ext ?_)
  match a with
  | ⟨0, _⟩ => show win0_2.index t 0 * 1920 + 1 * n.val = n.val; rw [(idx_t t).2.2.2.2.1.1]; omega
  | ⟨1, _⟩ => show win0_2.index t 1 * 5120 + 1 * k.val = k.val; rw [(idx_t t).2.2.2.2.1.2]; omega

theorem iblk3 (c : Dev nD) (t : Fin cfg0.N) (n : Fin 1920) :
    (iblk m c 3 t : Vec F S1x1920 .f32) (ix2 0 n) = V m c main_v2 (ix2 0 n) := by
  unfold iblk
  rw [View.read_apply]
  refine congrArg (V m c main_v2) (funext fun a => Fin.ext ?_)
  match a with
  | ⟨0, _⟩ => show win0_3.index t 0 * 1 + 1 * 0 = 0; rw [(idx_t t).2.2.2.2.2.1.1]
  | ⟨1, _⟩ => show win0_3.index t 1 * 1920 + 1 * n.val = n.val; rw [(idx_t t).2.2.2.2.2.1.2]; omega

theorem iblk4 (c : Dev nD) (t : Fin cfg0.N) (r : Fin 512) (n : Fin 1920) :
    (iblk m c 4 t : Vec F S512x1920 .bf16) (ix2 r n) = V m c main_v4 (ix2 (row t r) n) := by
  unfold iblk
  rw [View.read_apply]
  refine congrArg (V m c main_v4) (funext fun a => Fin.ext ?_)
  match a with
  | ⟨0, _⟩ => show win0_4.index t 0 * 512 + 1 * r.val = t.val * 512 + r.val; rw [(idx_t t).2.1.1]; omega
  | ⟨1, _⟩ => show win0_4.index t 1 * 1920 + 1 * n.val = n.val; rw [(idx_t t).2.1.2]; omega

/-- The codes of the whole array. -/
abbrev codesV (c : Dev nD) : Vec F S24576x5120 .fp8e4m3 := Spec.codes (V m c main_v3 : Vec F S24576x5120 .bf16) ((V m c main_arg5 : Vec F S1 .f32) (ix1 0))

/-- The result array of codes holds the codes of the whole array. -/
theorem final_6 (c : Dev nD) : (dats m 0 c).arrAt 6 cfg0.N = codesV m c := by
  refine (dats m 0 c).arrAt_eq_of_cover 6 (codesV m c) (fun t hf => ?_) fun i => ?_
  · rw [flushed6_A, out_6]
    funext j
    obtain ⟨r, k, rfl⟩ : ∃ (r : Fin 512) (k : Fin 5120), j = ix2 r k := ⟨j 0, j 1, eq_ix2 j⟩
    rw [View.read_apply]
    have e : ((cfg0.win 6).blk t).view.emb (ix2 r k) = (ix2 (row t r) k : S24576x5120.Idx) := by
      funext a; apply Fin.ext
      match a with
      | ⟨0, _⟩ => show win0_6.index t 0 * 512 + 1 * r.val = t.val * 512 + r.val; rw [(idx_t t).2.2.2.1.1]; omega
      | ⟨1, _⟩ => show win0_6.index t 1 * 5120 + 1 * k.val = k.val; rw [(idx_t t).2.2.2.1.2]; omega
    show Spec.code ((iblk m c 1 t : Vec F S512x5120 .bf16) (ix2 r k)) ((iblk m c 0 t : Vec F S1 .f32) (ix1 0)) = codesV m c (((cfg0.win 6).blk t).view.emb (ix2 r k))
    rw [e, iblk0, iblk1]
    rfl
  · have hN : cfg0.N = 48 := N_0
    have h0 : (i 0 : Nat) < 24576 := (i 0).isLt
    have h1 : (i 1 : Nat) < 5120 := (i 1).isLt
    refine ⟨⟨(i 0).val / 512, by omega⟩, flush0_6 _, ?_⟩
    generalize ht : (⟨(i 0).val / 512, by omega⟩ : Fin cfg0.N) = t
    have htv : t.val = (i 0).val / 512 := by rw [← ht]
    show i ∈ ((View.whole main_v5_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [(idx_t t).2.2.2.1.1]; omega
    | ⟨1, _⟩ => show win0_6.index t 1 * 5120 ≤ (i 1 : Nat) ∧ (i 1 : Nat) < win0_6.index t 1 * 5120 + 5120
                rw [(idx_t t).2.2.2.1.2]; omega

end Arrays

variable (m : (ℓ : Loc nD τ sig) → Buf (Elt Ideal) ℓ)

/-- The layer on the whole arrays. -/
abbrev linearV (c : Dev nD) : Vec Ideal S24576x1920 .bf16 :=
  Spec.linear (codesV m c) (V m c main_arg1 : Vec Ideal S1920x5120 .fp8e4m3) (fun n => (V m c main_v2 : Vec Ideal S1x1920 .f32) (ix2 0 n)) (V m c main_v4 : Vec Ideal S24576x1920 .bf16)

/-- The result array holds the layer on the whole arrays. -/
theorem final_5 (c : Dev nD) : (dats m 0 c).arrAt 5 cfg0.N = linearV m c := by
  refine (dats m 0 c).arrAt_eq_of_cover 5 (linearV m c) (fun t hf => ?_) fun i => ?_
  · rw [flushed5_A, out_5]
    funext j
    obtain ⟨r, n, rfl⟩ : ∃ (r : Fin 512) (n : Fin 1920), j = ix2 r n := ⟨j 0, j 1, eq_ix2 j⟩
    rw [View.read_apply]
    have e : ((cfg0.win 5).blk t).view.emb (ix2 r n) = (ix2 (row t r) n : S24576x1920.Idx) := by
      funext a; apply Fin.ext
      match a with
      | ⟨0, _⟩ => show win0_5.index t 0 * 512 + 1 * r.val = t.val * 512 + r.val; rw [(idx_t t).2.2.1.1]; omega
      | ⟨1, _⟩ => show win0_5.index t 1 * 1920 + 1 * n.val = n.val; rw [(idx_t t).2.2.1.2]; omega
    show Spec.linear (Spec.codes (iblk m c 1 t : Vec Ideal S512x5120 .bf16) ((iblk m c 0 t : Vec Ideal S1 .f32) (ix1 0))) (iblk m c 2 t : Vec Ideal S1920x5120 .fp8e4m3)
      (fun n => (iblk m c 3 t : Vec Ideal S1x1920 .f32) (ix2 0 n)) (iblk m c 4 t : Vec Ideal S512x1920 .bf16) (ix2 r n) = linearV m c (((cfg0.win 5).blk t).view.emb (ix2 r n))
    rw [e]
    unfold Spec.linear Spec.codes
    dsimp only
    rw [iblk3, iblk4, iblk0]
    simp only [iblk1, iblk2]
    rfl
  · have hN : cfg0.N = 48 := N_0
    have h0 : (i 0 : Nat) < 24576 := (i 0).isLt
    have h1 : (i 1 : Nat) < 1920 := (i 1).isLt
    refine ⟨⟨(i 0).val / 512, by omega⟩, flush0_5 _, ?_⟩
    generalize ht : (⟨(i 0).val / 512, by omega⟩ : Fin cfg0.N) = t
    have htv : t.val = (i 0).val / 512 := by rw [← ht]
    show i ∈ ((View.whole main_v5_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [(idx_t t).2.2.1.1]; omega
    | ⟨1, _⟩ => show win0_5.index t 1 * 1920 ≤ (i 1 : Nat) ∧ (i 1 : Nat) < win0_5.index t 1 * 1920 + 1920
                rw [(idx_t t).2.2.1.2]; omega

end Cert.AtScaleIdeal.Value

end
-- ==== Proof.Ref.lean ====
/- The reference at the ideal reading: what its two result arrays hold after the run. -/
module

public import proofs.«01_k».proof.Proof.Spec
public import proofs.«01_k».proof.Proof.Gen.ReferenceIdeal.Value
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- A block of one element, repeated over any shape, is that element everywhere. -/
theorem one_bcast {F : FTy → Type} [FloatOps F] {M N : ℕ} (s : Vec F S1x1 .f32) (h : S1x1.Broadcasts (⟨2, ![M, N]⟩ : Shape)) (i) :
    broadcastTo (⟨2, ![M, N]⟩ : Shape) s h i = s (ix2 0 0) :=
  broadcastTo_apply _ _ _ _ fun d => match d with | ⟨0, _⟩ => rfl | ⟨1, _⟩ => rfl

section AnyF
variable {F : FTy → Type} [FloatOps F]

/-- The quantised array, from the payload the body stores. -/
theorem pay1_eq (x : Vec F S24576x5120 .bf16) (s : Vec F S1x1 .f32) : k0_pay1 x s = Spec.codes x (s (ix2 0 0)) := by
  unfold k0_pay1
  simp only [shapeCast_self]
  funext i
  have hb := one_bcast (M := 24576) (N := 5120) s broadcasts_S1x1_S24576x5120 i
  exact congrArg (fun z => FloatOps.truncf .fp8e4m3 (by decide) (FloatOps.minimumf (Scalar.ofBits .f32 0x43E00000#32)
    (FloatOps.maximumf (Scalar.ofBits .f32 0xC3E00000#32) (FloatOps.mulf (FloatOps.extf .f32 (by decide) (x i)) z)))) hb

theorem out_7 (x0 : Vec F S24576x5120 .bf16) (x1 : Vec F S1920x5120 .fp8e4m3) (x2 : Vec F S1x1920 .f32) (x3 : Vec F S1x1 .f32) (x4 : Vec F S24576x1920 .bf16) (x5 : Vec F S1x1 .f32) :
    out0_7 x0 x1 x2 x3 x4 x5 = Spec.codes x0 (x5 (ix2 0 0)) := by
  unfold out0_7
  rw [View.canon_unit_zero hz, View.ld_unit_zero (S := S24576x5120) hz, View.ld_unit_zero (S := S1x1) hz, pay1_eq]

end AnyF

/-- The layer, from the payload the body stores. -/
theorem out_6 (x0 : Vec Ideal S24576x5120 .bf16) (x1 : Vec Ideal S1920x5120 .fp8e4m3) (x2 : Vec Ideal S1x1920 .f32) (x3 : Vec Ideal S1x1 .f32) (x4 : Vec Ideal S24576x1920 .bf16) (x5 : Vec Ideal S1x1 .f32) :
    out0_6 x0 x1 x2 x3 x4 x5
      = Spec.linear (Spec.codes x0 (x5 (ix2 0 0) : Ideal .f32)) x1 (fun n => (x3 (ix2 0 0) * x2 (ix2 0 n) : EReal)) x4 := by
  unfold out0_6
  rw [View.canon_unit_zero hz, View.ld_unit_zero (S := S24576x5120) hz, View.ld_unit_zero (S := S1x1) hz, View.ld_unit_zero (S := S1x1) hz,
    View.ld_unit_zero (S := S1920x5120) hz, View.ld_unit_zero (S := S1x1920) hz, View.ld_unit_zero (S := S24576x1920) hz]
  unfold k0_pay2
  simp only [shapeCast_self, pay1_eq]
  generalize Spec.codes (F := Ideal) x0 (x5 (ix2 0 0) : Ideal .f32) = q
  funext i
  obtain ⟨a, b, rfl⟩ : ∃ (a : Fin 24576) (b : Fin 1920), i = ix2 a b := ⟨i 0, i 1, eq_ix2 i⟩
  rw [truncf_apply, addf_apply, mulf_apply, extf_apply]
  have hm := Ideal.matmul_transposedRhs_apply (M := 24576) (K := 5120) (N := 1920) (φ₁ := .fp8e4m3) (φ₂ := .fp8e4m3) none q x1 (constant S24576x1920 .f32 0x00000000#32) a b
  rw [constant_apply, Ideal.ofBits_zero_f32] at hm
  have hs := one_bcast (M := 1) (N := 1920) x3 broadcasts_S1x1_S1x1920 (ix2 0 b)
  have hb : (broadcastTo S24576x1920 (mulf (F := Ideal) (φ := .f32) (broadcastTo S1x1920 x3 broadcasts_S1x1_S1x1920) x2) broadcasts_S1x1920_S24576x1920 : Vec Ideal S24576x1920 .f32) (ix2 a b)
      = (x3 (ix2 0 0) * x2 (ix2 0 b) : EReal) := by
    rw [broadcastTo_apply _ _ _ (ix2 0 b : S1x1920.Idx) fun d => match d with | ⟨0, _⟩ => rfl | ⟨1, _⟩ => rfl, mulf_apply]
    exact congrArg (fun z : EReal => z * x2 (ix2 0 b)) hs
  rw [hb]
  exact congrArg (fun z : EReal => z * (x3 (ix2 0 0) * x2 (ix2 0 b)) + x4 (ix2 a b)) hm

/-! ## The arrays -/

section Arrays
variable {F : FTy → Type} [FloatOps F]
variable (m : (ℓ : Loc nD τ sig) → Buf (Elt F) ℓ)

theorem iblk0 (c : Dev nD) (t : Fin cfg0.N) : (iblk m c 0 t : Vec F S24576x5120 .bf16) = V m c main_v0 := by
  funext i
  unfold iblk
  rw [View.read_apply]
  refine congrArg (V m c main_v0) (funext fun a => Fin.ext ?_)
  match a with
  | ⟨0, _⟩ => show 0 * 24576 + 1 * (i 0).val = (i 0).val; omega
  | ⟨1, _⟩ => show 0 * 5120 + 1 * (i 1).val = (i 1).val; omega

theorem iblk1 (c : Dev nD) (t : Fin cfg0.N) : (iblk m c 1 t : Vec F S1920x5120 .fp8e4m3) = V m c main_arg1 := by
  funext i
  unfold iblk
  rw [View.read_apply]
  refine congrArg (V m c main_arg1) (funext fun a => Fin.ext ?_)
  match a with
  | ⟨0, _⟩ => show 0 * 1920 + 1 * (i 0).val = (i 0).val; omega
  | ⟨1, _⟩ => show 0 * 5120 + 1 * (i 1).val = (i 1).val; omega

theorem iblk2 (c : Dev nD) (t : Fin cfg0.N) : (iblk m c 2 t : Vec F S1x1920 .f32) = V m c main_v1 := by
  funext i
  unfold iblk
  rw [View.read_apply]
  refine congrArg (V m c main_v1) (funext fun a => Fin.ext ?_)
  match a with
  | ⟨0, _⟩ => show 0 * 1 + 1 * (i 0).val = (i 0).val; omega
  | ⟨1, _⟩ => show 0 * 1920 + 1 * (i 1).val = (i 1).val; omega

theorem iblk3 (c : Dev nD) (t : Fin cfg0.N) : (iblk m c 3 t : Vec F S1x1 .f32) = V m c main_v2 := by
  funext i
  unfold iblk
  rw [View.read_apply]
  refine congrArg (V m c main_v2) (funext fun a => Fin.ext ?_)
  match a with
  | ⟨0, _⟩ => show 0 * 1 + 1 * (i 0).val = (i 0).val; omega
  | ⟨1, _⟩ => show 0 * 1 + 1 * (i 1).val = (i 1).val; omega

theorem iblk4 (c : Dev nD) (t : Fin cfg0.N) : (iblk m c 4 t : Vec F S24576x1920 .bf16) = V m c main_v3 := by
  funext i
  unfold iblk
  rw [View.read_apply]
  refine congrArg (V m c main_v3) (funext fun a => Fin.ext ?_)
  match a with
  | ⟨0, _⟩ => show 0 * 24576 + 1 * (i 0).val = (i 0).val; omega
  | ⟨1, _⟩ => show 0 * 1920 + 1 * (i 1).val = (i 1).val; omega

theorem iblk5 (c : Dev nD) (t : Fin cfg0.N) : (iblk m c 5 t : Vec F S1x1 .f32) = V m c main_v4 := by
  funext i
  unfold iblk
  rw [View.read_apply]
  refine congrArg (V m c main_v4) (funext fun a => Fin.ext ?_)
  match a with
  | ⟨0, _⟩ => show 0 * 1 + 1 * (i 0).val = (i 0).val; omega
  | ⟨1, _⟩ => show 0 * 1 + 1 * (i 1).val = (i 1).val; omega

/-- The one grid point. -/
abbrev t0 : Fin cfg0.N := ⟨0, by decide⟩

/-- The codes of the whole array. -/
abbrev codesV (c : Dev nD) : Vec F S24576x5120 .fp8e4m3 :=
  Spec.codes (V m c main_v0 : Vec F S24576x5120 .bf16) ((V m c main_v4 : Vec F S1x1 .f32) (ix2 0 0))

theorem final_7 (c : Dev nD) : (dats m 0 c).arrAt 7 cfg0.N = codesV m c := by
  refine (dats m 0 c).arrAt_eq_of_cover 7 (codesV m c) (fun t hf => ?_) fun i => ?_
  · rw [flushed7, iblk0, iblk1, iblk2, iblk3, iblk4, iblk5, out_7]
    funext j
    rw [View.read_apply]
    refine congrArg (codesV m c) (funext fun a => Fin.ext ?_)
    match a with
    | ⟨0, _⟩ => show (j 0).val = 0 * 24576 + 1 * (j 0).val; omega
    | ⟨1, _⟩ => show (j 1).val = 0 * 5120 + 1 * (j 1).val; omega
  · refine ⟨t0, flush0_7 _, ?_⟩
    show i ∈ ((View.whole main_v5_1).slice (win0_7.rect t0)).set
    rw [View.set_slice_whole, Rect.mem_set_unit]
    have h0 : (i 0 : Nat) < 24576 := (i 0).isLt
    have h1 : (i 1 : Nat) < 5120 := (i 1).isLt
    intro a
    match a with
    | ⟨0, _⟩ => show 0 * 24576 ≤ (i 0 : Nat) ∧ (i 0 : Nat) < 0 * 24576 + 24576; omega
    | ⟨1, _⟩ => show 0 * 5120 ≤ (i 1 : Nat) ∧ (i 1 : Nat) < 0 * 5120 + 5120; omega

end Arrays

variable (m : (ℓ : Loc nD τ sig) → Buf (Elt Ideal) ℓ)

/-- The scale of each channel: the activations' scale times the channel's. -/
abbrev scaleV (s : Vec Ideal S1x1 .f32) (w : Vec Ideal S1x1920 .f32) : Fin 1920 → Ideal .f32 := fun n => (s (ix2 0 0) * w (ix2 0 n) : EReal)

/-- The layer on the whole arrays. -/
abbrev linearV (c : Dev nD) : Vec Ideal S24576x1920 .bf16 :=
  Spec.linear (codesV m c) (V m c main_arg1 : Vec Ideal S1920x5120 .fp8e4m3)
    (scaleV (V m c main_v2) (V m c main_v1)) (V m c main_v3 : Vec Ideal S24576x1920 .bf16)

theorem final_6 (c : Dev nD) : (dats m 0 c).arrAt 6 cfg0.N = linearV m c := by
  refine (dats m 0 c).arrAt_eq_of_cover 6 (linearV m c) (fun t hf => ?_) fun i => ?_
  · rw [flushed6, iblk0, iblk1, iblk2, iblk3, iblk4, iblk5, out_6]
    funext j
    rw [View.read_apply]
    have e : ((cfg0.win 6).blk t).view.emb j = (j : S24576x1920.Idx) := by
      funext a; apply Fin.ext
      match a with
      | ⟨0, _⟩ => show 0 * 24576 + 1 * (j 0).val = (j 0).val; omega
      | ⟨1, _⟩ => show 0 * 1920 + 1 * (j 1).val = (j 1).val; omega
    show linearV m c j = linearV m c (((cfg0.win 6).blk t).view.emb j)
    rw [e]
  · refine ⟨t0, flush0_6 _, ?_⟩
    show i ∈ ((View.whole main_v5_0).slice (win0_6.rect t0)).set
    rw [View.set_slice_whole, Rect.mem_set_unit]
    have h0 : (i 0 : Nat) < 24576 := (i 0).isLt
    have h1 : (i 1 : Nat) < 1920 := (i 1).isLt
    intro a
    match a with
    | ⟨0, _⟩ => show 0 * 24576 ≤ (i 0 : Nat) ∧ (i 0 : Nat) < 0 * 24576 + 24576; omega
    | ⟨1, _⟩ => show 0 * 1920 ≤ (i 1 : Nat) ∧ (i 1 : Nat) < 0 * 1920 + 1920; omega

end Cert.ReferenceIdeal.Value

end
-- ==== Proof.Alg.lean ====
/- The kernel and the reference at the ideal reading start their regions from equal arrays, so their results are equal. -/
module

public import proofs.«01_k».proof.Proof.Kern
public import proofs.«01_k».proof.Proof.Ref
public import Idealize.ShloMosaic.Lib.StableHlo.RunRead

@[expose] public section

noncomputable section

namespace Cert.Alg

open Idealize.ShloMosaic Idealize.ShloMosaic.TcCoe Idealize.SL.Sem Idealize.ShloMosaic.ValueIdx

variable (m : (ℓ : Loc AtScaleIdeal.nD AtScaleIdeal.τ AtScaleIdeal.sig) → Buf (Elt Ideal) ℓ)
  (m' : (ℓ : Loc ReferenceIdeal.nD ReferenceIdeal.τ ReferenceIdeal.sig) → Buf (Elt Ideal) ℓ)

/-- Both flatten the same activations. -/
theorem x_eq (c : Dev AtScaleIdeal.nD)
    (h : m' ((c.tc : Thread ReferenceIdeal.nD ReferenceIdeal.τ).loc ReferenceIdeal.main_arg0) = m ((c.tc : Thread AtScaleIdeal.nD AtScaleIdeal.τ).loc AtScaleIdeal.main_arg0)) :
    (ReferenceIdeal.Gen.V m' c ReferenceIdeal.main_v0 : Vec Ideal ReferenceIdeal.S24576x5120 .bf16) = AtScaleIdeal.Gen.V m c AtScaleIdeal.main_v3 := by
  unfold AtScaleIdeal.Gen.V ReferenceIdeal.Gen.V
  after_reads_simp
  exact congrArg (fun z : Vec Ideal AtScaleIdeal.S8x3072x5120 .bf16 => shapeCast AtScaleIdeal.S24576x5120 z AtScaleIdeal.Gen.shapeCasts_S8x3072x5120_S24576x5120) h

/-- Both flatten the same residual. -/
theorem residual_eq (c : Dev AtScaleIdeal.nD)
    (h : m' ((c.tc : Thread ReferenceIdeal.nD ReferenceIdeal.τ).loc ReferenceIdeal.main_arg4) = m ((c.tc : Thread AtScaleIdeal.nD AtScaleIdeal.τ).loc AtScaleIdeal.main_arg4)) :
    (ReferenceIdeal.Gen.V m' c ReferenceIdeal.main_v3 : Vec Ideal ReferenceIdeal.S24576x1920 .bf16) = AtScaleIdeal.Gen.V m c AtScaleIdeal.main_v4 := by
  unfold AtScaleIdeal.Gen.V ReferenceIdeal.Gen.V
  after_reads_simp
  exact congrArg (fun z : Vec Ideal AtScaleIdeal.S8x3072x1920 .bf16 => shapeCast AtScaleIdeal.S24576x1920 z AtScaleIdeal.Gen.shapeCasts_S8x3072x1920_S24576x1920) h

/-- A vector as one row. -/
theorem row_apply {α : Type} {n : ℕ} (x : (⟨1, ![n]⟩ : Shape).Idx → α) (h : (⟨1, ![n]⟩ : Shape).ShapeCasts (⟨2, ![1, n]⟩ : Shape)) (t : Fin n) :
    shapeCast (⟨2, ![1, n]⟩ : Shape) x h (ix2 (0 : Fin 1) t) = x (ix1 t) :=
  (shapeCast_addUnit_apply ![n] x h (ix2 (0 : Fin 1) t)).trans (congrArg x (funext fun a => by fin_cases a; rfl))

/-- The reciprocal scale. -/
theorem inv_eq (c : Dev AtScaleIdeal.nD)
    (h : m' ((c.tc : Thread ReferenceIdeal.nD ReferenceIdeal.τ).loc ReferenceIdeal.main_arg5) = m ((c.tc : Thread AtScaleIdeal.nD AtScaleIdeal.τ).loc AtScaleIdeal.main_arg5)) :
    (ReferenceIdeal.Gen.V m' c ReferenceIdeal.main_v4 : Vec Ideal ReferenceIdeal.S1x1 .f32) (ix2 0 0) = (AtScaleIdeal.Gen.V m c AtScaleIdeal.main_arg5 : Vec Ideal AtScaleIdeal.S1 .f32) (ix1 0) := by
  rw [AtScaleIdeal.Gen.V_main_arg5]
  unfold ReferenceIdeal.Gen.V
  after_reads_simp
  exact (row_apply (n := 1) _ _ 0).trans (congrFun (f := (m' ((c.tc : Thread ReferenceIdeal.nD ReferenceIdeal.τ).loc ReferenceIdeal.main_arg5) : Vec Ideal ReferenceIdeal.S1 .f32)) h (ix1 0))

/-- The scale of a channel: the activations' scale times the channel's, on the host or in the body. -/
theorem scale_eq (c : Dev AtScaleIdeal.nD)
    (h2 : m' ((c.tc : Thread ReferenceIdeal.nD ReferenceIdeal.τ).loc ReferenceIdeal.main_arg2) = m ((c.tc : Thread AtScaleIdeal.nD AtScaleIdeal.τ).loc AtScaleIdeal.main_arg2))
    (h3 : m' ((c.tc : Thread ReferenceIdeal.nD ReferenceIdeal.τ).loc ReferenceIdeal.main_arg3) = m ((c.tc : Thread AtScaleIdeal.nD AtScaleIdeal.τ).loc AtScaleIdeal.main_arg3)) :
    ReferenceIdeal.Value.scaleV (ReferenceIdeal.Gen.V m' c ReferenceIdeal.main_v2) (ReferenceIdeal.Gen.V m' c ReferenceIdeal.main_v1)
      = fun n => (AtScaleIdeal.Gen.V m c AtScaleIdeal.main_v2 : Vec Ideal AtScaleIdeal.S1x1920 .f32) (ix2 0 n) := by
  unfold AtScaleIdeal.Gen.V ReferenceIdeal.Gen.V ReferenceIdeal.Value.scaleV
  after_reads_simp
  funext n
  have e1 := row_apply (n := 1) (m' ((c.tc : Thread ReferenceIdeal.nD ReferenceIdeal.τ).loc ReferenceIdeal.main_arg3) : Vec Ideal ReferenceIdeal.S1 .f32) ReferenceIdeal.Gen.shapeCasts_S1_S1x1 0
  have e2 := row_apply (n := 1920) (m' ((c.tc : Thread ReferenceIdeal.nD ReferenceIdeal.τ).loc ReferenceIdeal.main_arg2) : Vec Ideal ReferenceIdeal.S1920 .f32) ReferenceIdeal.Gen.shapeCasts_S1920_S1x1920 n
  refine (congrArg₂ (fun a b : EReal => a * b)
    (e1.trans (congrFun (f := (m' ((c.tc : Thread ReferenceIdeal.nD ReferenceIdeal.τ).loc ReferenceIdeal.main_arg3) : Vec Ideal ReferenceIdeal.S1 .f32)) h3 (ix1 0)))
    (e2.trans (congrFun (f := (m' ((c.tc : Thread ReferenceIdeal.nD ReferenceIdeal.τ).loc ReferenceIdeal.main_arg2) : Vec Ideal ReferenceIdeal.S1920 .f32)) h2 (ix1 n)))).trans ?_
  refine Eq.trans ?_ (row_apply (n := 1920) _ AtScaleIdeal.Gen.shapeCasts_S1920_S1x1920 n).symm
  rw [mulf_apply]
  refine congrArg (fun a : EReal => a * _) ?_
  exact (broadcastInDim_apply (s := AtScaleIdeal.S1) (t := AtScaleIdeal.S1920) ![0] AtScaleIdeal.Gen.bcast_S1_S1920_0
    (m ((c.tc : Thread AtScaleIdeal.nD AtScaleIdeal.τ).loc AtScaleIdeal.main_arg3) : Vec Ideal AtScaleIdeal.S1 .f32) (ix1 n) (ix1 0)
    fun a => match a with | ⟨0, _⟩ => rfl).symm

/-- The codes are equal. -/
theorem codes_eq (c : Dev AtScaleIdeal.nD)
    (h0 : m' ((c.tc : Thread ReferenceIdeal.nD ReferenceIdeal.τ).loc ReferenceIdeal.main_arg0) = m ((c.tc : Thread AtScaleIdeal.nD AtScaleIdeal.τ).loc AtScaleIdeal.main_arg0))
    (h5 : m' ((c.tc : Thread ReferenceIdeal.nD ReferenceIdeal.τ).loc ReferenceIdeal.main_arg5) = m ((c.tc : Thread AtScaleIdeal.nD AtScaleIdeal.τ).loc AtScaleIdeal.main_arg5)) :
    ReferenceIdeal.Value.codesV m' c = AtScaleIdeal.Value.codesV m c := by
  unfold ReferenceIdeal.Value.codesV AtScaleIdeal.Value.codesV
  rw [x_eq m m' c h0, inv_eq m m' c h5]

/-- The results are equal. -/
theorem linear_eq (c : Dev AtScaleIdeal.nD)
    (h0 : m' ((c.tc : Thread ReferenceIdeal.nD ReferenceIdeal.τ).loc ReferenceIdeal.main_arg0) = m ((c.tc : Thread AtScaleIdeal.nD AtScaleIdeal.τ).loc AtScaleIdeal.main_arg0))
    (h1 : m' ((c.tc : Thread ReferenceIdeal.nD ReferenceIdeal.τ).loc ReferenceIdeal.main_arg1) = m ((c.tc : Thread AtScaleIdeal.nD AtScaleIdeal.τ).loc AtScaleIdeal.main_arg1))
    (h2 : m' ((c.tc : Thread ReferenceIdeal.nD ReferenceIdeal.τ).loc ReferenceIdeal.main_arg2) = m ((c.tc : Thread AtScaleIdeal.nD AtScaleIdeal.τ).loc AtScaleIdeal.main_arg2))
    (h3 : m' ((c.tc : Thread ReferenceIdeal.nD ReferenceIdeal.τ).loc ReferenceIdeal.main_arg3) = m ((c.tc : Thread AtScaleIdeal.nD AtScaleIdeal.τ).loc AtScaleIdeal.main_arg3))
    (h4 : m' ((c.tc : Thread ReferenceIdeal.nD ReferenceIdeal.τ).loc ReferenceIdeal.main_arg4) = m ((c.tc : Thread AtScaleIdeal.nD AtScaleIdeal.τ).loc AtScaleIdeal.main_arg4))
    (h5 : m' ((c.tc : Thread ReferenceIdeal.nD ReferenceIdeal.τ).loc ReferenceIdeal.main_arg5) = m ((c.tc : Thread AtScaleIdeal.nD AtScaleIdeal.τ).loc AtScaleIdeal.main_arg5)) :
    ReferenceIdeal.Value.linearV m' c = AtScaleIdeal.Value.linearV m c := by
  have hw : (ReferenceIdeal.Gen.V m' c ReferenceIdeal.main_arg1 : Vec Ideal ReferenceIdeal.S1920x5120 .fp8e4m3) = AtScaleIdeal.Gen.V m c AtScaleIdeal.main_arg1 := by
    rw [ReferenceIdeal.Gen.V_main_arg1, AtScaleIdeal.Gen.V_main_arg1]; exact h1
  unfold ReferenceIdeal.Value.linearV AtScaleIdeal.Value.linearV
  rw [codes_eq m m' c h0 h5, scale_eq m m' c h2 h3, residual_eq m m' c h4, hw]

end Cert.Alg

end
-- ==== Proof.KernCodes.lean ====
/- The kernel with the reciprocal scale computed from `x_scale`: what its result array of codes holds after the run, at any
   reading. -/
module

public import proofs.«01_k».proof.Proof.Spec
public import proofs.«01_k».proof.Proof.Gen.Codes.Value
public import Idealize.ShloMosaic.Lib.Pipeline.Value

@[expose] public section

noncomputable section

namespace Cert.Codes.Value

open Cert.Codes Cert.Codes.Gen Idealize.ShloMosaic Idealize.ShloMosaic.TcCoe Idealize.SL.Sem
open Idealize.ShloMosaic.ValueIdx

theorem hz : (![0, 0] : Fin 2 → Nat) = fun _ => 0 := funext fun a => by fin_cases a <;> rfl

section AnyF
variable {F : FTy → Type} [BitOps F]
variable (m : (ℓ : Loc nD τ sig) → Buf (Elt F) ℓ)

/-- The scale's word, loaded from its block of one element. -/
theorem word_ld (x0 : Vec F S1 .f32) (h : 0 < (⟨1, ![1]⟩ : Shape).numel) :
    View.ld x0 (Rect.unit (s := S1) ![0] ![1] inb_S1_S1_0) (Shape.Idx.first h) = x0 (ix1 0) :=
  congrArg x0 (funext fun a => match a with | ⟨0, _⟩ => Subsingleton.elim (α := Fin 1) _ _)

/-- The block of codes a point leaves is its block of activations, quantised. -/
theorem out_6 (c : Dev nD) (i : grid0.Coords) (arg1 : Memref sig .tc .smem S1 .f32) (harg1 : arg1.IsWhole) (arg2 : Memref sig .tc .vmem S512x5120 .bf16) (harg2 : arg2.IsWhole) (arg3 : Memref sig .tc .vmem S1920x5120 .fp8e4m3) (harg3 : arg3.IsWhole) (arg4 : Memref sig .tc .vmem S1x1920 .f32) (harg4 : arg4.IsWhole) (arg5 : Memref sig .tc .vmem S512x1920 .bf16) (harg5 : arg5.IsWhole) (arg6 : Memref sig .tc .vmem S512x1920 .bf16) (harg6 : arg6.IsWhole) (arg7 : Memref sig .tc .vmem S512x5120 .fp8e4m3) (harg7 : arg7.IsWhole)
    (x0 : Vec F S1 .f32) (x1 : Vec F S512x5120 .bf16) (x2 : Vec F S1920x5120 .fp8e4m3) (x3 : Vec F S1x1920 .f32) (x4 : Vec F S512x1920 .bf16) :
    out0_A_6 c i arg1 harg1 arg2 harg2 arg3 harg3 arg4 harg4 arg5 harg5 arg6 harg6 arg7 harg7 x0 x1 x2 x3 x4
      = Spec.codes x1 (x0 (ix1 0)) := by
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  unfold k0_pay1
  simp only [View.readAt_eq_ld, harg2.read_unread, harg1.read_unread, View.ld_unit_zero (S := S512x5120) hz, shapeCast_self]
  rw [word_ld]
  rfl

end AnyF

/-! ## The arrays -/

section Arrays

/-- The block indices: windows 1, 4, 5, 6 move with the point; windows 0, 2, 3 stay. -/
theorem idx_t : ∀ t : Fin cfg0.N, (win0_1.index t 0 = t.val ∧ win0_1.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_2.index t 0 = 0 ∧ win0_2.index t 1 = 0) ∧ (win0_3.index t 0 = 0 ∧ win0_3.index t 1 = 0) ∧ win0_0.index t 0 = 0 :=
  (by decide +kernel : ∀ t : Fin grid0.N, (win0_1.index t 0 = t.val ∧ win0_1.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_2.index t 0 = 0 ∧ win0_2.index t 1 = 0) ∧ (win0_3.index t 0 = 0 ∧ win0_3.index t 1 = 0) ∧ win0_0.index t 0 = 0)

variable {F : FTy → Type} [BitOps F]
variable (m : (ℓ : Loc nD τ sig) → Buf (Elt F) ℓ)

/-- Row `r` of block `t`, of the whole array. -/
abbrev row (t : Fin cfg0.N) (r : Fin 512) : Fin 24576 := ⟨t.val * 512 + r.val, by have := t.isLt; have hN : cfg0.N = 48 := N_0; omega⟩

/-- The scale's block is the scale. -/
theorem iblk0 (c : Dev nD) (t : Fin cfg0.N) : (iblk m c 0 t : Vec F S1 .f32) (ix1 0) = V m c main_v3 (ix1 0) := by
  unfold iblk
  rw [View.read_apply]
  generalize V m c = W
  exact congrArg (W main_v3) (funext fun a => match a with | ⟨0, _⟩ => Subsingleton.elim (α := Fin 1) _ _)

theorem iblk1 (c : Dev nD) (t : Fin cfg0.N) (r : Fin 512) (k : Fin 5120) :
    (iblk m c 1 t : Vec F S512x5120 .bf16) (ix2 r k) = V m c main_v7 (ix2 (row t r) k) := by
  unfold iblk
  rw [View.read_apply]
  generalize V m c = W
  refine congrArg (W main_v7) (funext fun a => Fin.ext ?_)
  match a with
  | ⟨0, _⟩ => show win0_1.index t 0 * 512 + 1 * r.val = t.val * 512 + r.val; rw [(idx_t t).1.1]; omega
  | ⟨1, _⟩ => show win0_1.index t 1 * 5120 + 1 * k.val = k.val; rw [(idx_t t).1.2]; omega

/-- The codes of the whole array. -/
abbrev codesV (c : Dev nD) : Vec F S24576x5120 .fp8e4m3 := Spec.codes (V m c main_v7 : Vec F S24576x5120 .bf16) ((V m c main_v3 : Vec F S1 .f32) (ix1 0))

/-- The result array of codes holds the codes of the whole array. -/
theorem final_6 (c : Dev nD) : (dats m 0 c).arrAt 6 cfg0.N = codesV m c := by
  refine (dats m 0 c).arrAt_eq_of_cover 6 (codesV m c) (fun t hf => ?_) fun i => ?_
  · rw [flushed6_A, out_6]
    funext j
    obtain ⟨r, k, rfl⟩ : ∃ (r : Fin 512) (k : Fin 5120), j = ix2 r k := ⟨j 0, j 1, eq_ix2 j⟩
    rw [View.read_apply]
    have e : ((cfg0.win 6).blk t).view.emb (ix2 r k) = (ix2 (row t r) k : S24576x5120.Idx) := by
      funext a; apply Fin.ext
      match a with
      | ⟨0, _⟩ => show win0_6.index t 0 * 512 + 1 * r.val = t.val * 512 + r.val; rw [(idx_t t).2.2.2.1.1]; omega
      | ⟨1, _⟩ => show win0_6.index t 1 * 5120 + 1 * k.val = k.val; rw [(idx_t t).2.2.2.1.2]; omega
    show Spec.code ((iblk m c 1 t : Vec F S512x5120 .bf16) (ix2 r k)) ((iblk m c 0 t : Vec F S1 .f32) (ix1 0)) = codesV m c (((cfg0.win 6).blk t).view.emb (ix2 r k))
    rw [e, iblk0, iblk1]
    rfl
  · have hN : cfg0.N = 48 := N_0
    have h0 : (i 0 : Nat) < 24576 := (i 0).isLt
    have h1 : (i 1 : Nat) < 5120 := (i 1).isLt
    refine ⟨⟨(i 0).val / 512, by omega⟩, flush0_6 _, ?_⟩
    generalize ht : (⟨(i 0).val / 512, by omega⟩ : Fin cfg0.N) = t
    have htv : t.val = (i 0).val / 512 := by rw [← ht]
    show i ∈ ((View.whole main_v9_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [(idx_t t).2.2.2.1.1]; omega
    | ⟨1, _⟩ => show win0_6.index t 1 * 5120 ≤ (i 1 : Nat) ∧ (i 1 : Nat) < win0_6.index t 1 * 5120 + 5120
                rw [(idx_t t).2.2.2.1.2]; omega

end Arrays

end Cert.Codes.Value

end
-- ==== Proof.CodesEq.lean ====
/- The reference's quantiser with the reciprocal scale computed from `x_scale`: what its result array holds after the run,
   and that the kernel leaves the same codes. -/
module

public import proofs.«01_k».proof.Proof.KernCodes
public import proofs.«01_k».proof.Proof.Gen.CodesReference.Value
public import Idealize.ShloMosaic.Lib.StableHlo.RunRead

@[expose] public section

noncomputable section

namespace Cert.CodesReference.Value

open Cert.CodesReference Cert.CodesReference.Gen Idealize.ShloMosaic Idealize.ShloMosaic.TcCoe Idealize.SL.Sem
open Idealize.ShloMosaic.ValueIdx

theorem hz : (![0, 0] : Fin 2 → Nat) = fun _ => 0 := funext fun a => by fin_cases a <;> rfl

variable {F : FTy → Type} [BitOps F]

/-- The quantised array, from the payload the body stores. -/
theorem out_2 (x0 : Vec F S24576x5120 .bf16) (x1 : Vec F S1x1 .f32) : out0_2 x0 x1 = Spec.codes x0 (x1 (ix2 0 0)) := by
  unfold out0_2
  rw [View.canon_unit_zero hz, View.ld_unit_zero (S := S24576x5120) hz, View.ld_unit_zero (S := S1x1) hz]
  unfold k0_pay1
  simp only [shapeCast_self]
  funext i
  have hb : broadcastTo S24576x5120 x1 broadcasts_S1x1_S24576x5120 i = x1 (ix2 0 0) :=
    broadcastTo_apply _ _ _ _ fun d => match d with | ⟨0, _⟩ => rfl | ⟨1, _⟩ => rfl
  exact congrArg (fun z => FloatOps.truncf .fp8e4m3 (by decide) (FloatOps.minimumf (Scalar.ofBits .f32 0x43E00000#32)
    (FloatOps.maximumf (Scalar.ofBits .f32 0xC3E00000#32) (FloatOps.mulf (FloatOps.extf .f32 (by decide) (x0 i)) z)))) hb

variable (m : (ℓ : Loc nD τ sig) → Buf (Elt F) ℓ)

theorem iblk0 (c : Dev nD) (t : Fin cfg0.N) : (iblk m c 0 t : Vec F S24576x5120 .bf16) = V m c main_v4 := by
  funext i
  unfold iblk
  rw [View.read_apply]
  generalize V m c = W
  refine congrArg (W main_v4) (funext fun a => Fin.ext ?_)
  match a with
  | ⟨0, _⟩ => show 0 * 24576 + 1 * (i 0).val = (i 0).val; omega
  | ⟨1, _⟩ => show 0 * 5120 + 1 * (i 1).val = (i 1).val; omega

theorem iblk1 (c : Dev nD) (t : Fin cfg0.N) : (iblk m c 1 t : Vec F S1x1 .f32) = V m c main_v5 := by
  funext i
  unfold iblk
  rw [View.read_apply]
  generalize V m c = W
  refine congrArg (W main_v5) (funext fun a => Fin.ext ?_)
  match a with
  | ⟨0, _⟩ => show 0 * 1 + 1 * (i 0).val = (i 0).val; omega
  | ⟨1, _⟩ => show 0 * 1 + 1 * (i 1).val = (i 1).val; omega

/-- The one grid point. -/
abbrev t0 : Fin cfg0.N := ⟨0, by decide⟩

/-- The codes of the whole array. -/
abbrev codesV (c : Dev nD) : Vec F S24576x5120 .fp8e4m3 :=
  Spec.codes (V m c main_v4 : Vec F S24576x5120 .bf16) ((V m c main_v5 : Vec F S1x1 .f32) (ix2 0 0))

theorem final_2 (c : Dev nD) : (dats m 0 c).arrAt 2 cfg0.N = codesV m c := by
  refine (dats m 0 c).arrAt_eq_of_cover 2 (codesV m c) (fun t hf => ?_) fun i => ?_
  · rw [flushed2, iblk0, iblk1, out_2]
    funext j
    rw [View.read_apply]
    have e : ((cfg0.win 2).blk t).view.emb j = (j : S24576x5120.Idx) := by
      funext a; apply Fin.ext
      match a with
      | ⟨0, _⟩ => show 0 * 24576 + 1 * (j 0).val = (j 0).val; omega
      | ⟨1, _⟩ => show 0 * 5120 + 1 * (j 1).val = (j 1).val; omega
    show codesV m c j = codesV m c (((cfg0.win 2).blk t).view.emb j)
    rw [e]
  · refine ⟨t0, flush0_2 _, ?_⟩
    show i ∈ ((View.whole main_v6).slice (win0_2.rect t0)).set
    rw [View.set_slice_whole, Rect.mem_set_unit]
    have h0 : (i 0 : Nat) < 24576 := (i 0).isLt
    have h1 : (i 1 : Nat) < 5120 := (i 1).isLt
    intro a
    match a with
    | ⟨0, _⟩ => show 0 * 24576 ≤ (i 0 : Nat) ∧ (i 0 : Nat) < 0 * 24576 + 24576; omega
    | ⟨1, _⟩ => show 0 * 5120 ≤ (i 1 : Nat) ∧ (i 1 : Nat) < 0 * 5120 + 5120; omega

end Cert.CodesReference.Value

namespace Cert.CodesEq

open Idealize.ShloMosaic Idealize.ShloMosaic.TcCoe Idealize.SL.Sem Idealize.ShloMosaic.ValueIdx

variable (m : (ℓ : Loc Codes.nD Codes.τ Codes.sig) → Buf (Elt Bits) ℓ)
  (m' : (ℓ : Loc CodesReference.nD CodesReference.τ CodesReference.sig) → Buf (Elt Bits) ℓ)

/-- Both flatten the same activations. -/
theorem x_eq (c : Dev Codes.nD)
    (h : m' ((c.tc : Thread CodesReference.nD CodesReference.τ).loc CodesReference.main_arg0) = m ((c.tc : Thread Codes.nD Codes.τ).loc Codes.main_arg0)) :
    (CodesReference.Gen.V m' c CodesReference.main_v4 : Vec Bits CodesReference.S24576x5120 .bf16) = Codes.Gen.V m c Codes.main_v7 := by
  unfold Codes.Gen.V CodesReference.Gen.V
  after_reads_simp
  exact congrArg (fun z : Vec Bits Codes.S8x3072x5120 .bf16 => shapeCast Codes.S24576x5120 z Codes.Gen.shapeCasts_S8x3072x5120_S24576x5120) h

set_option maxHeartbeats 4000000 in
/-- Both compute the reciprocal scale by the same operations on the same scale. -/
theorem chain_eq (c : Dev Codes.nD)
    (h : m' ((c.tc : Thread CodesReference.nD CodesReference.τ).loc CodesReference.main_arg3) = m ((c.tc : Thread Codes.nD Codes.τ).loc Codes.main_arg3)) :
    (CodesReference.Gen.V m' c CodesReference.main_v3 : Vec Bits CodesReference.S1 .f32) = Codes.Gen.V m c Codes.main_v3 := by
  have h' : m' (c, Proc.tc.devRef CodesReference.main_arg3) = m (c, Proc.tc.devRef Codes.main_arg3) := h
  unfold Codes.Gen.V CodesReference.Gen.V
  after_reads_simp
  rw [h']

/-- The reference's block of one element holds it. -/
theorem word_eq (c : Dev CodesReference.nD) :
    (CodesReference.Gen.V m' c CodesReference.main_v5 : Vec Bits CodesReference.S1x1 .f32) (ix2 0 0) = (CodesReference.Gen.V m' c CodesReference.main_v3 : Vec Bits CodesReference.S1 .f32) (ix1 0) := by
  have key : ∀ W : Valuation CodesReference.τ CodesReference.sig (Elt Bits),
      (StableHlo.after (CodesReference.Gen.hostOps0_3 (F := Bits)) W (Proc.devRef .tc CodesReference.main_v5) : Vec Bits CodesReference.S1x1 .f32) (ix2 0 0)
        = (StableHlo.after (CodesReference.Gen.hostOps0_3 (F := Bits)) W (Proc.devRef .tc CodesReference.main_v3) : Vec Bits CodesReference.S1 .f32) (ix1 0) := by
    intro W
    after_reads_simp
    exact (shapeCast_addUnit_apply ![1] _ CodesReference.Gen.shapeCasts_S1_S1x1 (ix2 (0 : Fin 1) (0 : Fin 1))).trans (congrArg _ (funext fun a => by fin_cases a; rfl))
  have hf : List.flatten [CodesReference.Gen.hostOps0 (F := Bits), CodesReference.Gen.hostOps0_1, CodesReference.Gen.hostOps0_2, CodesReference.Gen.hostOps0_3]
      = (CodesReference.Gen.hostOps0 ++ (CodesReference.Gen.hostOps0_1 ++ CodesReference.Gen.hostOps0_2)) ++ CodesReference.Gen.hostOps0_3 := by
    rw [List.flatten_cons, List.flatten_cons, List.flatten_cons, List.flatten_cons, List.flatten_nil, List.append_nil, List.append_assoc, List.append_assoc]
  unfold CodesReference.Gen.V
  rw [hf, StableHlo.after_append]
  exact key _

/-- The codes are equal. -/
theorem codes_eq (c : Dev Codes.nD)
    (h0 : m' ((c.tc : Thread CodesReference.nD CodesReference.τ).loc CodesReference.main_arg0) = m ((c.tc : Thread Codes.nD Codes.τ).loc Codes.main_arg0))
    (h3 : m' ((c.tc : Thread CodesReference.nD CodesReference.τ).loc CodesReference.main_arg3) = m ((c.tc : Thread Codes.nD Codes.τ).loc Codes.main_arg3)) :
    CodesReference.Value.codesV m' c = Codes.Value.codesV m c := by
  unfold CodesReference.Value.codesV Codes.Value.codesV
  rw [x_eq m m' c h0, word_eq, chain_eq m m' c h3]

end Cert.CodesEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.AtScale
public import proofs.«01_k».proof.Proof.Gen.AtScale.Skeleton
public import proofs.«01_k».proof.Proof.Gen.AtScale.Launch
public import proofs.«01_k».proof.Proof.Gen.AtScale.Points
public import proofs.«01_k».proof.Proof.Gen.AtScale.Frame
public import proofs.«01_k».proof.Proof.Gen.AtScaleIdeal
public import proofs.«01_k».proof.Proof.Gen.AtScaleIdeal.Skeleton
public import proofs.«01_k».proof.Proof.Gen.AtScaleIdeal.Launch
public import proofs.«01_k».proof.Proof.Gen.AtScaleIdeal.Points
public import proofs.«01_k».proof.Proof.Gen.AtScaleIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Codes
public import proofs.«01_k».proof.Proof.Gen.Codes.Skeleton
public import proofs.«01_k».proof.Proof.Gen.Codes.Launch
public import proofs.«01_k».proof.Proof.Gen.Codes.Points
public import proofs.«01_k».proof.Proof.Gen.Codes.Frame
public import proofs.«01_k».proof.Proof.Gen.CodesReference
public import proofs.«01_k».proof.Proof.Gen.CodesReference.Skeleton
public import proofs.«01_k».proof.Proof.Gen.CodesReference.Launch
public import proofs.«01_k».proof.Proof.Gen.CodesReference.Points
public import proofs.«01_k».proof.Proof.Gen.CodesReference.Frame
public import proofs.«01_k».proof.Proof.Gen.AtScaleIdeal.Value
public import proofs.«01_k».proof.Proof.Gen.ReferenceIdeal.Value
public import proofs.«01_k».proof.Proof.Gen.Codes.Value
public import proofs.«01_k».proof.Proof.Gen.CodesReference.Value
public import proofs.«01_k».proof.Proof.Alg
public import proofs.«01_k».proof.Proof.CodesEq
public import Idealize.ShloMosaic.Adequacy
public import Idealize.ShloMosaic.Init

@[expose] public section

noncomputable section

namespace Cert.Proof

open Idealize.ShloMosaic Idealize.SL.Sem

/-- The kernel and the reference, at the ideal reading, leave equal results, equal codes and the same scale. -/
theorem algebraic : @algebraic_AtScaleIdeal_ReferenceIdeal Cert.AtScaleIdeal.Gen.facts Cert.ReferenceIdeal.Gen.facts := by
  intro m g m' g' _ h
  refine ⟨fun c => AtScaleIdeal.Value.linearV m c, fun c => AtScaleIdeal.Value.codesV m c, fun c => m ((c.tc : Thread AtScaleIdeal.nD AtScaleIdeal.τ).loc AtScaleIdeal.main_arg3), ?_, ?_⟩
  · refine (θ_run _ _ _).mono (fun r hr c => ?_) (AtScaleIdeal.Value.run_blocks m g)
    obtain ⟨h5, h6, k0, k1, k2, k3, k4, k5⟩ := hr c
    exact ⟨h5.trans (AtScaleIdeal.Value.final_5 m c), h6.trans (AtScaleIdeal.Value.final_6 m c), k3, k0, k1, k2, k3, k4, k5⟩
  · refine (θ_run _ _ _).mono (fun r hr c => ?_) (ReferenceIdeal.Value.run_blocks m' g')
    obtain ⟨h5, h6, k0, k1, k2, k3, k4, k5⟩ := hr c
    obtain ⟨a0, a1, a2, a3, a4, a5⟩ := h c
    exact ⟨(h5.trans (ReferenceIdeal.Value.final_6 m' c)).trans (Alg.linear_eq m m' c a0 a1 a2 a3 a4 a5),
      (h6.trans (ReferenceIdeal.Value.final_7 m' c)).trans (Alg.codes_eq m m' c a0 a5), k3.trans a3, k0, k1, k2, k3, k4, k5⟩

/-- The kernel and the reference leave the same codes, bit for bit, and the same scale. -/
theorem bitexact : @bitexact_Codes_CodesReference Cert.Codes.Gen.facts Cert.CodesReference.Gen.facts := by
  intro m g m' g' _ h
  refine ⟨fun c => Codes.Value.codesV m c, fun c => m ((c.tc : Thread Codes.nD Codes.τ).loc Codes.main_arg3), ?_, ?_⟩
  · refine (θ_run _ _ _).mono (fun r hr c => ?_) (Codes.Value.run_blocks m g)
    obtain ⟨_, h6, k0, k1, k2, k3, k4⟩ := hr c
    exact ⟨h6.trans (Codes.Value.final_6 m c), k3, k0, k1, k2, k3, k4⟩
  · refine (θ_run _ _ _).mono (fun r hr c => ?_) (CodesReference.Value.run_blocks m' g')
    obtain ⟨h6, k0, k1, k2, k3, k4⟩ := hr c
    obtain ⟨a0, a1, a2, a3, a4⟩ := h c
    exact ⟨(h6.trans (CodesReference.Value.final_2 m' c)).trans (CodesEq.codes_eq m m' c a0 a3), k3.trans a3, k0, k1, k2, k3, k4⟩

theorem claim : Cert.Claim := ⟨Cert.Kernel.Gen.facts, Cert.AtScale.Gen.facts, Cert.AtScaleIdeal.Gen.facts, Cert.ReferenceIdeal.Gen.facts, Cert.Codes.Gen.facts, Cert.CodesReference.Gen.facts,
  fun m g _ => Cert.Kernel.Gen.frame m g, fun m g _ => Cert.AtScale.Gen.frame m g, fun m g _ => Cert.AtScaleIdeal.Gen.frame m g,
  fun m g _ => Cert.ReferenceIdeal.Gen.frame m g, fun m g _ => Cert.Codes.Gen.frame m g, fun m g _ => Cert.CodesReference.Gen.frame m g,
  trivial, algebraic, bitexact⟩

end Cert.Proof

end
